-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types [hPre_types : Cert.Pre_types.Facts] (m : (ℓ : Loc Cert.KernelIdeal.nD Cert.KernelIdeal.τ Cert.KernelIdeal.sig) → Buf (Elt Ideal) ℓ) : Prop :=
  ∀ c : Dev Cert.KernelIdeal.nD,
    (Cert.Pre_types.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types [hPre_types : Cert.Pre_types.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_types [hKernelIdeal : Cert.KernelIdeal.Facts] [hPre_types : Cert.Pre_types.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_types [hReferenceIdeal : Cert.ReferenceIdeal.Facts] [hPre_types : Cert.Pre_types.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_types [hKernelIdeal : Cert.KernelIdeal.Facts] [hReferenceIdeal : Cert.ReferenceIdeal.Facts] [hPre_types : Cert.Pre_types.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_types : Cert.Pre_types.Facts),
    quiescent_Kernel (hKernel := hKernel)
    ∧ quiescent_KernelIdeal (hKernelIdeal := hKernelIdeal)
    ∧ quiescent_KernelIdeal_pre_types (hKernelIdeal := hKernelIdeal) (hPre_types := hPre_types)
    ∧ quiescent_ReferenceIdeal (hReferenceIdeal := hReferenceIdeal)
    ∧ quiescent_ReferenceIdeal_pre_types (hReferenceIdeal := hReferenceIdeal) (hPre_types := hPre_types)
    ∧ preserves_Kernel_KernelIdeal
    ∧ algebraic_KernelIdeal_ReferenceIdeal_pre_types (hKernelIdeal := hKernelIdeal) (hReferenceIdeal := hReferenceIdeal) (hPre_types := hPre_types)
-- ==== Pre_types.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x128 .f32) (main_arg3 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 2#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S40x1x2500 : Shape := ⟨3, ![40, 1, 2500]⟩
abbrev S1x128 : Shape := ⟨2, ![1, 128]⟩
abbrev S2x2500x128 : Shape := ⟨3, ![2, 2500, 128]⟩
abbrev S2 : Shape := ⟨1, ![2]⟩
abbrev S2x1x1x2500 : Shape := ⟨4, ![2, 1, 1, 2500]⟩
abbrev S1 : Shape := ⟨1, ![1]⟩
abbrev S_ : Shape := ⟨0, ![]⟩
abbrev S1x2500x128 : Shape := ⟨3, ![1, 2500, 128]⟩
abbrev S2500x128 : Shape := ⟨2, ![2500, 128]⟩
abbrev S1x1x1x2500 : Shape := ⟨4, ![1, 1, 1, 2500]⟩
abbrev S1x1x2500 : Shape := ⟨3, ![1, 1, 2500]⟩
abbrev S1x2500 : Shape := ⟨2, ![1, 2500]⟩
abbrev S2500x1 : Shape := ⟨2, ![2500, 1]⟩

abbrev nBuf : Space → Nat
  | .hbm => 8
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S100000, .i8⟩
  | .hbm, ⟨5, _⟩ => ⟨S40x1x2500, .i8⟩
  | .hbm, ⟨6, _⟩ => ⟨S1x128, .f32⟩
  | .hbm, ⟨7, _⟩ => ⟨S100000x128, .f32⟩
  | .local _ .vmem, ⟨0, _⟩ => ⟨S128x128, .f32⟩
  | .local _ .vmem, ⟨1, _⟩ => ⟨S1x128, .f32⟩
  | .local _ .vmem, ⟨2, _⟩ => ⟨S2x2500x128, .f32⟩
  | .local _ .vmem, ⟨3, _⟩ => ⟨S2x1x1x2500, .i8⟩
  | .local _ .vmem, ⟨4, _⟩ => ⟨S2x2500x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def k0_off1 : Fin 1 → Nat :=
  let c0_i32_16_r0 : BitVec 32 := 0#32
  let c2_i32_r0 : BitVec 32 := 2#32
  let v19_r0 : BitVec 32 := Scalar.remui c0_i32_16_r0 c2_i32_r0
  ![v19_r0.toNat]
def k0_off2 : Fin 3 → Nat :=
  let c0_i32_16_r0 : BitVec 32 := 0#32
  let c2_i32_r0 : BitVec 32 := 2#32
  let v19_r0 : BitVec 32 := Scalar.remui c0_i32_16_r0 c2_i32_r0
  let c0_i32_17_r0 : BitVec 32 := 0#32
  let c0_i32_18_r0 : BitVec 32 := 0#32
  ![v19_r0.toNat, 0, 0]
def k0_off3 : Fin 4 → Nat :=
  let c0_i32_23_r0 : BitVec 32 := 0#32
  let c2_i32_24_r0 : BitVec 32 := 2#32
  let v26_r0 : BitVec 32 := Scalar.remui c0_i32_23_r0 c2_i32_24_r0
  let c0_i32_25_r0 : BitVec 32 := 0#32
  let c0_i32_26_r0 : BitVec 32 := 0#32
  let c0_i32_27_r0 : BitVec 32 := 0#32
  ![v26_r0.toNat, 0, 0, 0]
@[reducible] def k0_t1_loop : Scf.Loop 32 :=
  let c0_i32_38_r0 : BitVec 32 := 0#32
  let c40_i32_39_r0 : BitVec 32 := 40#32
  let v33_r0 : BitVec 32 := Scalar.addi c0_i32_38_r0 c40_i32_39_r0
  let c1_i32_40_r0 : BitVec 32 := 1#32
  ⟨c0_i32_38_r0, v33_r0, c1_i32_40_r0⟩
def k0_off4 (arg7_r0 : BitVec 32) : Fin 1 → Nat :=
  let c2_i32_136_r0 : BitVec 32 := 2#32
  let v194_r0 : BitVec 32 := Scalar.remui arg7_r0 c2_i32_136_r0
  ![v194_r0.toNat]
def k0_cond1 (k0_t1 : Fin k0_t1_loop.trips) (arg13_r0 : BitVec 32) : BitVec 1 :=
  let c0_i32_68_r0 : BitVec 32 := 0#32
  let v64_r0 : BitVec 32 := Scalar.addi arg13_r0 c0_i32_68_r0
  let true_75_r0 : BitVec 1 := 1#1
  let c1_i32_74_r0 : BitVec 32 := 1#32
  let v70_r0 : BitVec 32 := Scalar.addi arg13_r0 c1_i32_74_r0
  let v71_r0 : BitVec 32 := Scalar.select true_75_r0 v70_r0 arg13_r0
  let c40_i32_76_r0 : BitVec 32 := 40#32
  let v72_r0 : BitVec 1 := Scalar.cmpi .eq v71_r0 c40_i32_76_r0
  let c0_i32_77_r0 : BitVec 32 := 0#32
  let v73_r0 : BitVec 32 := Scalar.select v72_r0 c0_i32_77_r0 v71_r0
  let c0_i32_78_r0 : BitVec 32 := 0#32
  let v74_r0 : BitVec 32 := Scalar.addi v73_r0 c0_i32_78_r0
  let v80_r0 : BitVec 1 := Scalar.cmpi .ne v64_r0 v74_r0
  let c0_i32_38_r0 : BitVec 32 := 0#32
  let c1_i32_40_r0 : BitVec 32 := 1#32
  let arg6_r0 : BitVec 32 := Scf.iv c0_i32_38_r0 c1_i32_40_r0 k0_t1
  let c39_i32_84_r0 : BitVec 32 := 39#32
  let v81_r0 : BitVec 1 := Scalar.cmpi .sge arg6_r0 c39_i32_84_r0
  let true_85_r0 : BitVec 1 := 1#1
  let v82_r0 : BitVec 1 := Scalar.xori v81_r0 true_85_r0
  let v83_r0 : BitVec 1 := Scalar.andi v80_r0 v82_r0
  let true_86_r0 : BitVec 1 := 1#1
  let v84_r0 : BitVec 1 := Scalar.andi v83_r0 true_86_r0
  let v85_r0 : BitVec 32 := Scalar.extui v84_r0
  let c0_i32_87_r0 : BitVec 32 := 0#32
  let v86_r0 : BitVec 1 := Scalar.cmpi .ne v85_r0 c0_i32_87_r0
  v86_r0

def k0_off5 (arg7_r0 : BitVec 32) : Fin 3 → Nat :=
  let c2_i32_136_r0 : BitVec 32 := 2#32
  let v194_r0 : BitVec 32 := Scalar.remui arg7_r0 c2_i32_136_r0
  let c0_i32_138_r0 : BitVec 32 := 0#32
  let c0_i32_139_r0 : BitVec 32 := 0#32
  ![v194_r0.toNat, 0, 0]
def k0_off6 (arg13_r0 : BitVec 32) : Fin 2 → Nat :=
  let c2500_i32_137_r0 : BitVec 32 := 2500#32
  let true_75_r0 : BitVec 1 := 1#1
  let c1_i32_74_r0 : BitVec 32 := 1#32
  let v70_r0 : BitVec 32 := Scalar.addi arg13_r0 c1_i32_74_r0
  let v71_r0 : BitVec 32 := Scalar.select true_75_r0 v70_r0 arg13_r0
  let c40_i32_76_r0 : BitVec 32 := 40#32
  let v72_r0 : BitVec 1 := Scalar.cmpi .eq v71_r0 c40_i32_76_r0
  let c0_i32_77_r0 : BitVec 32 := 0#32
  let v73_r0 : BitVec 32 := Scalar.select v72_r0 c0_i32_77_r0 v71_r0
  let c0_i32_78_r0 : BitVec 32 := 0#32
  let v74_r0 : BitVec 32 := Scalar.addi v73_r0 c0_i32_78_r0
  let v195_r0 : BitVec 32 := Scalar.muli c2500_i32_137_r0 v74_r0
  let c0_i32_140_r0 : BitVec 32 := 0#32
  ![v195_r0.toNat, 0]
def k0_off7 (arg9_r0 : BitVec 32) : Fin 1 → Nat :=
  let c2_i32_136_r0 : BitVec 32 := 2#32
  let v194_r0 : BitVec 32 := Scalar.remui arg9_r0 c2_i32_136_r0
  ![v194_r0.toNat]
def k0_cond2 (k0_t1 : Fin k0_t1_loop.trips) (arg13_r0 : BitVec 32) : BitVec 1 :=
  let c0_i32_68_r0 : BitVec 32 := 0#32
  let v64_r0 : BitVec 32 := Scalar.addi arg13_r0 c0_i32_68_r0
  let true_75_r0 : BitVec 1 := 1#1
  let c1_i32_74_r0 : BitVec 32 := 1#32
  let v70_r0 : BitVec 32 := Scalar.addi arg13_r0 c1_i32_74_r0
  let v71_r0 : BitVec 32 := Scalar.select true_75_r0 v70_r0 arg13_r0
  let c40_i32_76_r0 : BitVec 32 := 40#32
  let v72_r0 : BitVec 1 := Scalar.cmpi .eq v71_r0 c40_i32_76_r0
  let c0_i32_77_r0 : BitVec 32 := 0#32
  let v73_r0 : BitVec 32 := Scalar.select v72_r0 c0_i32_77_r0 v71_r0
  let c0_i32_78_r0 : BitVec 32 := 0#32
  let v74_r0 : BitVec 32 := Scalar.addi v73_r0 c0_i32_78_r0
  let v90_r0 : BitVec 1 := Scalar.cmpi .ne v64_r0 v74_r0
  let c0_i32_38_r0 : BitVec 32 := 0#32
  let c1_i32_40_r0 : BitVec 32 := 1#32
  let arg6_r0 : BitVec 32 := Scf.iv c0_i32_38_r0 c1_i32_40_r0 k0_t1
  let c39_i32_90_r0 : BitVec 32 := 39#32
  let v91_r0 : BitVec 1 := Scalar.cmpi .sge arg6_r0 c39_i32_90_r0
  let true_91_r0 : BitVec 1 := 1#1
  let v92_r0 : BitVec 1 := Scalar.xori v91_r0 true_91_r0
  let v93_r0 : BitVec 1 := Scalar.andi v90_r0 v92_r0
  let true_92_r0 : BitVec 1 := 1#1
  let v94_r0 : BitVec 1 := Scalar.andi v93_r0 true_92_r0
  let v95_r0 : BitVec 32 := Scalar.extui v94_r0
  let c0_i32_93_r0 : BitVec 32 := 0#32
  let v96_r0 : BitVec 1 := Scalar.cmpi .ne v95_r0 c0_i32_93_r0
  v96_r0

def k0_off8 (arg9_r0 : BitVec 32) : Fin 4 → Nat :=
  let c2_i32_136_r0 : BitVec 32 := 2#32
  let v194_r0 : BitVec 32 := Scalar.remui arg9_r0 c2_i32_136_r0
  let c0_i32_138_r0 : BitVec 32 := 0#32
  let c0_i32_139_r0 : BitVec 32 := 0#32
  let c0_i32_140_r0 : BitVec 32 := 0#32
  ![v194_r0.toNat, 0, 0, 0]
def k0_off9 (arg13_r0 : BitVec 32) : Fin 3 → Nat :=
  let c1_i32_137_r0 : BitVec 32 := 1#32
  let true_75_r0 : BitVec 1 := 1#1
  let c1_i32_74_r0 : BitVec 32 := 1#32
  let v70_r0 : BitVec 32 := Scalar.addi arg13_r0 c1_i32_74_r0
  let v71_r0 : BitVec 32 := Scalar.select true_75_r0 v70_r0 arg13_r0
  let c40_i32_76_r0 : BitVec 32 := 40#32
  let v72_r0 : BitVec 1 := Scalar.cmpi .eq v71_r0 c40_i32_76_r0
  let c0_i32_77_r0 : BitVec 32 := 0#32
  let v73_r0 : BitVec 32 := Scalar.select v72_r0 c0_i32_77_r0 v71_r0
  let c0_i32_78_r0 : BitVec 32 := 0#32
  let v74_r0 : BitVec 32 := Scalar.addi v73_r0 c0_i32_78_r0
  let v195_r0 : BitVec 32 := Scalar.muli c1_i32_137_r0 v74_r0
  let c0_i32_141_r0 : BitVec 32 := 0#32
  let c0_i32_142_r0 : BitVec 32 := 0#32
  ![v195_r0.toNat, 0, 0]
def k0_off10 (arg8_r0 : BitVec 32) : Fin 1 → Nat :=
  let c2_i32_137_r0 : BitVec 32 := 2#32
  let v195_r0 : BitVec 32 := Scalar.remui arg8_r0 c2_i32_137_r0
  ![v195_r0.toNat]
def k0_cond3 (k0_t1 : Fin k0_t1_loop.trips) (arg13_r0 : BitVec 32) : BitVec 1 :=
  let c0_i32_68_r0 : BitVec 32 := 0#32
  let v64_r0 : BitVec 32 := Scalar.addi arg13_r0 c0_i32_68_r0
  let true_70_r0 : BitVec 1 := 1#1
  let c1_i32_69_r0 : BitVec 32 := 1#32
  let v65_r0 : BitVec 32 := Scalar.subi arg13_r0 c1_i32_69_r0
  let v66_r0 : BitVec 32 := Scalar.select true_70_r0 v65_r0 arg13_r0
  let c_m1_i32_71_r0 : BitVec 32 := 4294967295#32
  let v67_r0 : BitVec 1 := Scalar.cmpi .eq v66_r0 c_m1_i32_71_r0
  let c39_i32_72_r0 : BitVec 32 := 39#32
  let v68_r0 : BitVec 32 := Scalar.select v67_r0 c39_i32_72_r0 v66_r0
  let c0_i32_73_r0 : BitVec 32 := 0#32
  let v69_r0 : BitVec 32 := Scalar.addi v68_r0 c0_i32_73_r0
  let v104_r0 : BitVec 1 := Scalar.cmpi .ne v64_r0 v69_r0
  let c0_i32_38_r0 : BitVec 32 := 0#32
  let c1_i32_40_r0 : BitVec 32 := 1#32
  let arg6_r0 : BitVec 32 := Scf.iv c0_i32_38_r0 c1_i32_40_r0 k0_t1
  let c0_i32_66_r0 : BitVec 32 := 0#32
  let v62_r0 : BitVec 1 := Scalar.cmpi .eq arg6_r0 c0_i32_66_r0
  let v105_r0 : BitVec 1 := Scalar.ori v104_r0 v62_r0
  let c0_i32_98_r0 : BitVec 32 := 0#32
  let v106_r0 : BitVec 1 := Scalar.cmpi .sge arg6_r0 c0_i32_98_r0
  let v107_r0 : BitVec 1 := Scalar.andi v105_r0 v106_r0
  let v108_r0 : BitVec 32 := Scalar.extui v107_r0
  let c0_i32_99_r0 : BitVec 32 := 0#32
  let v109_r0 : BitVec 1 := Scalar.cmpi .ne v108_r0 c0_i32_99_r0
  v109_r0

def k0_off11 (arg8_r0 : BitVec 32) : Fin 3 → Nat :=
  let c2_i32_137_r0 : BitVec 32 := 2#32
  let v195_r0 : BitVec 32 := Scalar.remui arg8_r0 c2_i32_137_r0
  let c0_i32_138_r0 : BitVec 32 := 0#32
  let c0_i32_139_r0 : BitVec 32 := 0#32
  ![v195_r0.toNat, 0, 0]
def k0_off12 (arg13_r0 : BitVec 32) : Fin 2 → Nat :=
  let c2500_i32_136_r0 : BitVec 32 := 2500#32
  let c0_i32_68_r0 : BitVec 32 := 0#32
  let v64_r0 : BitVec 32 := Scalar.addi arg13_r0 c0_i32_68_r0
  let v194_r0 : BitVec 32 := Scalar.muli c2500_i32_136_r0 v64_r0
  let c0_i32_140_r0 : BitVec 32 := 0#32
  ![v194_r0.toNat, 0]
def k0_off13 (arg10_r0 : BitVec 32) : Fin 1 → Nat :=
  let c2_i32_137_r0 : BitVec 32 := 2#32
  let v195_r0 : BitVec 32 := Scalar.remui arg10_r0 c2_i32_137_r0
  ![v195_r0.toNat]
def k0_cond4 (k0_t1 : Fin k0_t1_loop.trips) (arg13_r0 : BitVec 32) : BitVec 1 :=
  let c0_i32_68_r0 : BitVec 32 := 0#32
  let v64_r0 : BitVec 32 := Scalar.addi arg13_r0 c0_i32_68_r0
  let true_70_r0 : BitVec 1 := 1#1
  let c1_i32_69_r0 : BitVec 32 := 1#32
  let v65_r0 : BitVec 32 := Scalar.subi arg13_r0 c1_i32_69_r0
  let v66_r0 : BitVec 32 := Scalar.select true_70_r0 v65_r0 arg13_r0
  let c_m1_i32_71_r0 : BitVec 32 := 4294967295#32
  let v67_r0 : BitVec 1 := Scalar.cmpi .eq v66_r0 c_m1_i32_71_r0
  let c39_i32_72_r0 : BitVec 32 := 39#32
  let v68_r0 : BitVec 32 := Scalar.select v67_r0 c39_i32_72_r0 v66_r0
  let c0_i32_73_r0 : BitVec 32 := 0#32
  let v69_r0 : BitVec 32 := Scalar.addi v68_r0 c0_i32_73_r0
  let v110_r0 : BitVec 1 := Scalar.cmpi .ne v64_r0 v69_r0
  let c0_i32_38_r0 : BitVec 32 := 0#32
  let c1_i32_40_r0 : BitVec 32 := 1#32
  let arg6_r0 : BitVec 32 := Scf.iv c0_i32_38_r0 c1_i32_40_r0 k0_t1
  let c0_i32_66_r0 : BitVec 32 := 0#32
  let v62_r0 : BitVec 1 := Scalar.cmpi .eq arg6_r0 c0_i32_66_r0
  let v111_r0 : BitVec 1 := Scalar.ori v110_r0 v62_r0
  let c0_i32_100_r0 : BitVec 32 := 0#32
  let v112_r0 : BitVec 1 := Scalar.cmpi .sge arg6_r0 c0_i32_100_r0
  let v113_r0 : BitVec 1 := Scalar.andi v111_r0 v112_r0
  let v114_r0 : BitVec 32 := Scalar.extui v113_r0
  let c0_i32_101_r0 : BitVec 32 := 0#32
  let v115_r0 : BitVec 1 := Scalar.cmpi .ne v114_r0 c0_i32_101_r0
  v115_r0

def k0_off14 (arg10_r0 : BitVec 32) : Fin 4 → Nat :=
  let c2_i32_137_r0 : BitVec 32 := 2#32
  let v195_r0 : BitVec 32 := Scalar.remui arg10_r0 c2_i32_137_r0
  let c0_i32_138_r0 : BitVec 32 := 0#32
  let c0_i32_139_r0 : BitVec 32 := 0#32
  let c0_i32_140_r0 : BitVec 32 := 0#32
  ![v195_r0.toNat, 0, 0, 0]
def k0_off15 (arg13_r0 : BitVec 32) : Fin 3 → Nat :=
  let c1_i32_136_r0 : BitVec 32 := 1#32
  let c0_i32_68_r0 : BitVec 32 := 0#32
  let v64_r0 : BitVec 32 := Scalar.addi arg13_r0 c0_i32_68_r0
  let v194_r0 : BitVec 32 := Scalar.muli c1_i32_136_r0 v64_r0
  let c0_i32_141_r0 : BitVec 32 := 0#32
  let c0_i32_142_r0 : BitVec 32 := 0#32
  ![v194_r0.toNat, 0, 0]
def k0_off16 (arg8_r0 : BitVec 32) : Fin 3 → Nat :=
  let c2_i32_104_r0 : BitVec 32 := 2#32
  let v122_r0 : BitVec 32 := Scalar.remui arg8_r0 c2_i32_104_r0
  let v125_r0 : Index := Scalar.indexCast v122_r0
  let c0_107_r0 : Index := 0#32
  let c0_108_r0 : Index := 0#32
  ![v125_r0.toNat, 0, 0]

def k0_chk2 (arg8_r0 : BitVec 32) : Prop :=
  (∀ a, (k0_off16 arg8_r0) a + S1x2500x128.size a ≤ S2x2500x128.size a)
theorem k0_off16_inb : ∀ (arg8_r0 : BitVec 32) (k0_hw2 : k0_chk2 arg8_r0), ∀ a, (k0_off16 arg8_r0) a + S1x2500x128.size a ≤ S2x2500x128.size a := fun arg8_r0 k0_hw2 => k0_hw2

def k0_off17 (arg10_r0 : BitVec 32) : Fin 4 → Nat :=
  let c2_i32_105_r0 : BitVec 32 := 2#32
  let v123_r0 : BitVec 32 := Scalar.remui arg10_r0 c2_i32_105_r0
  let v129_r0 : Index := Scalar.indexCast v123_r0
  let c0_109_r0 : Index := 0#32
  let c0_110_r0 : Index := 0#32
  let c0_111_r0 : Index := 0#32
  ![v129_r0.toNat, 0, 0, 0]

def k0_chk3 (arg10_r0 : BitVec 32) : Prop :=
  (∀ a, (k0_off17 arg10_r0) a + S1x1x1x2500.size a ≤ S2x1x1x2500.size a)
theorem k0_off17_inb : ∀ (arg10_r0 : BitVec 32) (k0_hw3 : k0_chk3 arg10_r0), ∀ a, (k0_off17 arg10_r0) a + S1x1x1x2500.size a ≤ S2x1x1x2500.size a := fun arg10_r0 k0_hw3 => k0_hw3

def k0_off18 (arg11_r0 : BitVec 32) : Fin 3 → Nat :=
  let c2_i32_106_r0 : BitVec 32 := 2#32
  let v124_r0 : BitVec 32 := Scalar.remui arg11_r0 c2_i32_106_r0
  let v141_r0 : Index := Scalar.indexCast v124_r0
  let c0_112_r0 : Index := 0#32
  let c0_113_r0 : Index := 0#32
  ![v141_r0.toNat, 0, 0]

def k0_chk4 (arg11_r0 : BitVec 32) : Prop :=
  (∀ a, (k0_off18 arg11_r0) a + S1x2500x128.size a ≤ S2x2500x128.size a)
theorem k0_off18_inb : ∀ (arg11_r0 : BitVec 32) (k0_hw4 : k0_chk4 arg11_r0), ∀ a, (k0_off18 arg11_r0) a + S1x2500x128.size a ≤ S2x2500x128.size a := fun arg11_r0 k0_hw4 => k0_hw4

def k0_off19 (arg11_r0 : BitVec 32) : Fin 1 → Nat :=
  let c2_i32_136_r0 : BitVec 32 := 2#32
  let v194_r0 : BitVec 32 := Scalar.remui arg11_r0 c2_i32_136_r0
  ![v194_r0.toNat]
def k0_cond8 (k0_t1 : Fin k0_t1_loop.trips) (arg13_r0 : BitVec 32) : BitVec 1 :=
  let c0_i32_68_r0 : BitVec 32 := 0#32
  let v64_r0 : BitVec 32 := Scalar.addi arg13_r0 c0_i32_68_r0
  let true_75_r0 : BitVec 1 := 1#1
  let c1_i32_74_r0 : BitVec 32 := 1#32
  let v70_r0 : BitVec 32 := Scalar.addi arg13_r0 c1_i32_74_r0
  let v71_r0 : BitVec 32 := Scalar.select true_75_r0 v70_r0 arg13_r0
  let c40_i32_76_r0 : BitVec 32 := 40#32
  let v72_r0 : BitVec 1 := Scalar.cmpi .eq v71_r0 c40_i32_76_r0
  let c0_i32_77_r0 : BitVec 32 := 0#32
  let v73_r0 : BitVec 32 := Scalar.select v72_r0 c0_i32_77_r0 v71_r0
  let c0_i32_78_r0 : BitVec 32 := 0#32
  let v74_r0 : BitVec 32 := Scalar.addi v73_r0 c0_i32_78_r0
  let v155_r0 : BitVec 1 := Scalar.cmpi .ne v64_r0 v74_r0
  let c0_i32_38_r0 : BitVec 32 := 0#32
  let c1_i32_40_r0 : BitVec 32 := 1#32
  let arg6_r0 : BitVec 32 := Scf.iv c0_i32_38_r0 c1_i32_40_r0 k0_t1
  let c39_i32_67_r0 : BitVec 32 := 39#32
  let v63_r0 : BitVec 1 := Scalar.cmpi .eq arg6_r0 c39_i32_67_r0
  let v156_r0 : BitVec 1 := Scalar.ori v155_r0 v63_r0
  let v157_r0 : BitVec 32 := Scalar.extui v156_r0
  let c0_i32_117_r0 : BitVec 32 := 0#32
  let v158_r0 : BitVec 1 := Scalar.cmpi .ne v157_r0 c0_i32_117_r0
  v158_r0

def k0_off20 (arg13_r0 : BitVec 32) : Fin 2 → Nat :=
  let c2500_i32_137_r0 : BitVec 32 := 2500#32
  let c0_i32_68_r0 : BitVec 32 := 0#32
  let v64_r0 : BitVec 32 := Scalar.addi arg13_r0 c0_i32_68_r0
  let v195_r0 : BitVec 32 := Scalar.muli c2500_i32_137_r0 v64_r0
  let c0_i32_138_r0 : BitVec 32 := 0#32
  ![v195_r0.toNat, 0]
def k0_off21 (arg11_r0 : BitVec 32) : Fin 3 → Nat :=
  let c2_i32_136_r0 : BitVec 32 := 2#32
  let v194_r0 : BitVec 32 := Scalar.remui arg11_r0 c2_i32_136_r0
  let c0_i32_139_r0 : BitVec 32 := 0#32
  let c0_i32_140_r0 : BitVec 32 := 0#32
  ![v194_r0.toNat, 0, 0]
def k0_off22 (arg12_r0 : BitVec 32) : Fin 1 → Nat :=
  let c2_i32_136_r0 : BitVec 32 := 2#32
  let v194_r0 : BitVec 32 := Scalar.remui arg12_r0 c2_i32_136_r0
  ![v194_r0.toNat]
def k0_cond11 (k0_t1 : Fin k0_t1_loop.trips) (arg13_r0 : BitVec 32) : BitVec 1 :=
  let c0_i32_68_r0 : BitVec 32 := 0#32
  let v64_r0 : BitVec 32 := Scalar.addi arg13_r0 c0_i32_68_r0
  let true_70_r0 : BitVec 1 := 1#1
  let c1_i32_69_r0 : BitVec 32 := 1#32
  let v65_r0 : BitVec 32 := Scalar.subi arg13_r0 c1_i32_69_r0
  let v66_r0 : BitVec 32 := Scalar.select true_70_r0 v65_r0 arg13_r0
  let c_m1_i32_71_r0 : BitVec 32 := 4294967295#32
  let v67_r0 : BitVec 1 := Scalar.cmpi .eq v66_r0 c_m1_i32_71_r0
  let c39_i32_72_r0 : BitVec 32 := 39#32
  let v68_r0 : BitVec 32 := Scalar.select v67_r0 c39_i32_72_r0 v66_r0
  let c0_i32_73_r0 : BitVec 32 := 0#32
  let v69_r0 : BitVec 32 := Scalar.addi v68_r0 c0_i32_73_r0
  let v174_r0 : BitVec 1 := Scalar.cmpi .ne v64_r0 v69_r0
  let c0_i32_38_r0 : BitVec 32 := 0#32
  let c1_i32_40_r0 : BitVec 32 := 1#32
  let arg6_r0 : BitVec 32 := Scf.iv c0_i32_38_r0 c1_i32_40_r0 k0_t1
  let c0_i32_66_r0 : BitVec 32 := 0#32
  let v62_r0 : BitVec 1 := Scalar.cmpi .eq arg6_r0 c0_i32_66_r0
  let true_126_r0 : BitVec 1 := 1#1
  let v175_r0 : BitVec 1 := Scalar.xori v62_r0 true_126_r0
  let v176_r0 : BitVec 1 := Scalar.andi v174_r0 v175_r0
  let v177_r0 : BitVec 32 := Scalar.extui v176_r0
  let c0_i32_127_r0 : BitVec 32 := 0#32
  let v178_r0 : BitVec 1 := Scalar.cmpi .ne v177_r0 c0_i32_127_r0
  v178_r0

def k0_off23 (arg13_r0 : BitVec 32) : Fin 2 → Nat :=
  let c2500_i32_137_r0 : BitVec 32 := 2500#32
  let true_70_r0 : BitVec 1 := 1#1
  let c1_i32_69_r0 : BitVec 32 := 1#32
  let v65_r0 : BitVec 32 := Scalar.subi arg13_r0 c1_i32_69_r0
  let v66_r0 : BitVec 32 := Scalar.select true_70_r0 v65_r0 arg13_r0
  let c_m1_i32_71_r0 : BitVec 32 := 4294967295#32
  let v67_r0 : BitVec 1 := Scalar.cmpi .eq v66_r0 c_m1_i32_71_r0
  let c39_i32_72_r0 : BitVec 32 := 39#32
  let v68_r0 : BitVec 32 := Scalar.select v67_r0 c39_i32_72_r0 v66_r0
  let c0_i32_73_r0 : BitVec 32 := 0#32
  let v69_r0 : BitVec 32 := Scalar.addi v68_r0 c0_i32_73_r0
  let v195_r0 : BitVec 32 := Scalar.muli c2500_i32_137_r0 v69_r0
  let c0_i32_138_r0 : BitVec 32 := 0#32
  ![v195_r0.toNat, 0]
def k0_off24 (arg12_r0 : BitVec 32) : Fin 3 → Nat :=
  let c2_i32_136_r0 : BitVec 32 := 2#32
  let v194_r0 : BitVec 32 := Scalar.remui arg12_r0 c2_i32_136_r0
  let c0_i32_139_r0 : BitVec 32 := 0#32
  let c0_i32_140_r0 : BitVec 32 := 0#32
  ![v194_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) : Prop :=
  (∀ (k0_h1 : k0_cond1 k0_t1 arg13_r0 = 1#1), ∀ a, (k0_off4 arg7_r0) a + S1.size a ≤ S2.size a) ∧
  (∀ (k0_h1 : k0_cond1 k0_t1 arg13_r0 = 1#1), ∀ a, (k0_off5 arg7_r0) a + S1x2500x128.size a ≤ S2x2500x128.size a) ∧
  (∀ (k0_h1 : k0_cond1 k0_t1 arg13_r0 = 1#1), ∀ a, (k0_off6 arg13_r0) a + S2500x128.size a ≤ S100000x128.size a) ∧
  (∀ (k0_h2 : k0_cond2 k0_t1 arg13_r0 = 1#1), ∀ a, (k0_off7 arg9_r0) a + S1.size a ≤ S2.size a) ∧
  (∀ (k0_h2 : k0_cond2 k0_t1 arg13_r0 = 1#1), ∀ a, (k0_off8 arg9_r0) a + S1x1x1x2500.size a ≤ S2x1x1x2500.size a) ∧
  (∀ (k0_h2 : k0_cond2 k0_t1 arg13_r0 = 1#1), ∀ a, (k0_off9 arg13_r0) a + S1x1x2500.size a ≤ S40x1x2500.size a) ∧
  (∀ (k0_h2 : k0_cond2 k0_t1 arg13_r0 = 1#1), ∀ (hinb : ∀ a, (k0_off9 arg13_r0) a + S1x1x2500.size a ≤ S40x1x2500.size a), (Rect.unit (s := S40x1x2500) (k0_off9 arg13_r0) S1x1x2500.size hinb).WholeWords (EltTy.packing .i8)) ∧
  (∀ (k0_h2 : k0_cond2 k0_t1 arg13_r0 = 1#1), ∀ (hinb : ∀ a, (k0_off8 arg9_r0) a + S1x1x1x2500.size a ≤ S2x1x1x2500.size a), (Rect.unit (s := S2x1x1x2500) (k0_off8 arg9_r0) S1x1x1x2500.size hinb).WholeWords (EltTy.packing .i8)) ∧
  (∀ (k0_h3 : k0_cond3 k0_t1 arg13_r0 = 1#1), ∀ a, (k0_off10 arg8_r0) a + S1.size a ≤ S2.size a) ∧
  (∀ (k0_h3 : k0_cond3 k0_t1 arg13_r0 = 1#1), ∀ a, (k0_off11 arg8_r0) a + S1x2500x128.size a ≤ S2x2500x128.size a) ∧
  (∀ (k0_h3 : k0_cond3 k0_t1 arg13_r0 = 1#1), ∀ a, (k0_off12 arg13_r0) a + S2500x128.size a ≤ S100000x128.size a) ∧
  (∀ (k0_h4 : k0_cond4 k0_t1 arg13_r0 = 1#1), ∀ a, (k0_off13 arg10_r0) a + S1.size a ≤ S2.size a) ∧
  (∀ (k0_h4 : k0_cond4 k0_t1 arg13_r0 = 1#1), ∀ a, (k0_off14 arg10_r0) a + S1x1x1x2500.size a ≤ S2x1x1x2500.size a) ∧
  (∀ (k0_h4 : k0_cond4 k0_t1 arg13_r0 = 1#1), ∀ a, (k0_off15 arg13_r0) a + S1x1x2500.size a ≤ S40x1x2500.size a) ∧
  (∀ (k0_h4 : k0_cond4 k0_t1 arg13_r0 = 1#1), ∀ (hinb : ∀ a, (k0_off15 arg13_r0) a + S1x1x2500.size a ≤ S40x1x2500.size a), (Rect.unit (s := S40x1x2500) (k0_off15 arg13_r0) S1x1x2500.size hinb).WholeWords (EltTy.packing .i8)) ∧
  (∀ (k0_h4 : k0_cond4 k0_t1 arg13_r0 = 1#1), ∀ (hinb : ∀ a, (k0_off14 arg10_r0) a + S1x1x1x2500.size a ≤ S2x1x1x2500.size a), (Rect.unit (s := S2x1x1x2500) (k0_off14 arg10_r0) S1x1x1x2500.size hinb).WholeWords (EltTy.packing .i8)) ∧
  (∀ (k0_h8 : k0_cond8 k0_t1 arg13_r0 = 1#1), ∀ a, (k0_off19 arg11_r0) a + S1.size a ≤ S2.size a) ∧
  (∀ (k0_h8 : k0_cond8 k0_t1 arg13_r0 = 1#1), ∀ a, (k0_off20 arg13_r0) a + S2500x128.size a ≤ S100000x128.size a) ∧
  (∀ (k0_h8 : k0_cond8 k0_t1 arg13_r0 = 1#1), ∀ a, (k0_off21 arg11_r0) a + S1x2500x128.size a ≤ S2x2500x128.size a) ∧
  (∀ (k0_h11 : k0_cond11 k0_t1 arg13_r0 = 1#1), ∀ a, (k0_off22 arg12_r0) a + S1.size a ≤ S2.size a) ∧
  (∀ (k0_h11 : k0_cond11 k0_t1 arg13_r0 = 1#1), ∀ a, (k0_off23 arg13_r0) a + S2500x128.size a ≤ S100000x128.size a) ∧
  (∀ (k0_h11 : k0_cond11 k0_t1 arg13_r0 = 1#1), ∀ a, (k0_off24 arg12_r0) a + S1x2500x128.size a ≤ S2x2500x128.size a)
theorem k0_off4_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off4 arg7_r0) a + S1.size a ≤ S2.size a := fun k0_t1 arg7_r0 arg8_r0 arg9_r0 arg10_r0 arg11_r0 arg12_r0 arg13_r0 k0_hw1 k0_h1 => k0_hw1.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off5 arg7_r0) a + S1x2500x128.size a ≤ S2x2500x128.size a := fun k0_t1 arg7_r0 arg8_r0 arg9_r0 arg10_r0 arg11_r0 arg12_r0 arg13_r0 k0_hw1 k0_h1 => k0_hw1.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off6 arg13_r0) a + S2500x128.size a ≤ S100000x128.size a := fun k0_t1 arg7_r0 arg8_r0 arg9_r0 arg10_r0 arg11_r0 arg12_r0 arg13_r0 k0_hw1 k0_h1 => k0_hw1.2.2.1 k0_h1
theorem k0_off7_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off7 arg9_r0) a + S1.size a ≤ S2.size a := fun k0_t1 arg7_r0 arg8_r0 arg9_r0 arg10_r0 arg11_r0 arg12_r0 arg13_r0 k0_hw1 k0_h2 => k0_hw1.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off8 arg9_r0) a + S1x1x1x2500.size a ≤ S2x1x1x2500.size a := fun k0_t1 arg7_r0 arg8_r0 arg9_r0 arg10_r0 arg11_r0 arg12_r0 arg13_r0 k0_hw1 k0_h2 => k0_hw1.2.2.2.2.1 k0_h2
theorem k0_off9_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off9 arg13_r0) a + S1x1x2500.size a ≤ S40x1x2500.size a := fun k0_t1 arg7_r0 arg8_r0 arg9_r0 arg10_r0 arg11_r0 arg12_r0 arg13_r0 k0_hw1 k0_h2 => k0_hw1.2.2.2.2.2.1 k0_h2
theorem k0_off9_wordsi8 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), (Rect.unit (s := S40x1x2500) (k0_off9 arg13_r0) S1x1x2500.size (k0_off9_inb k0_t1 arg7_r0 arg8_r0 arg9_r0 arg10_r0 arg11_r0 arg12_r0 arg13_r0 k0_hw1 k0_h2)).WholeWords (EltTy.packing .i8) := fun k0_t1 arg7_r0 arg8_r0 arg9_r0 arg10_r0 arg11_r0 arg12_r0 arg13_r0 k0_hw1 k0_h2 => k0_hw1.2.2.2.2.2.2.1 k0_h2 (k0_off9_inb k0_t1 arg7_r0 arg8_r0 arg9_r0 arg10_r0 arg11_r0 arg12_r0 arg13_r0 k0_hw1 k0_h2)
theorem k0_off8_wordsi8 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), (Rect.unit (s := S2x1x1x2500) (k0_off8 arg9_r0) S1x1x1x2500.size (k0_off8_inb k0_t1 arg7_r0 arg8_r0 arg9_r0 arg10_r0 arg11_r0 arg12_r0 arg13_r0 k0_hw1 k0_h2)).WholeWords (EltTy.packing .i8) := fun k0_t1 arg7_r0 arg8_r0 arg9_r0 arg10_r0 arg11_r0 arg12_r0 arg13_r0 k0_hw1 k0_h2 => k0_hw1.2.2.2.2.2.2.2.1 k0_h2 (k0_off8_inb k0_t1 arg7_r0 arg8_r0 arg9_r0 arg10_r0 arg11_r0 arg12_r0 arg13_r0 k0_hw1 k0_h2)
theorem k0_off10_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off10 arg8_r0) a + S1.size a ≤ S2.size a := fun k0_t1 arg7_r0 arg8_r0 arg9_r0 arg10_r0 arg11_r0 arg12_r0 arg13_r0 k0_hw1 k0_h3 => k0_hw1.2.2.2.2.2.2.2.2.1 k0_h3
theorem k0_off11_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off11 arg8_r0) a + S1x2500x128.size a ≤ S2x2500x128.size a := fun k0_t1 arg7_r0 arg8_r0 arg9_r0 arg10_r0 arg11_r0 arg12_r0 arg13_r0 k0_hw1 k0_h3 => k0_hw1.2.2.2.2.2.2.2.2.2.1 k0_h3
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off12 arg13_r0) a + S2500x128.size a ≤ S100000x128.size a := fun k0_t1 arg7_r0 arg8_r0 arg9_r0 arg10_r0 arg11_r0 arg12_r0 arg13_r0 k0_hw1 k0_h3 => k0_hw1.2.2.2.2.2.2.2.2.2.2.1 k0_h3
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off13 arg10_r0) a + S1.size a ≤ S2.size a := fun k0_t1 arg7_r0 arg8_r0 arg9_r0 arg10_r0 arg11_r0 arg12_r0 arg13_r0 k0_hw1 k0_h4 => k0_hw1.2.2.2.2.2.2.2.2.2.2.2.1 k0_h4
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off14 arg10_r0) a + S1x1x1x2500.size a ≤ S2x1x1x2500.size a := fun k0_t1 arg7_r0 arg8_r0 arg9_r0 arg10_r0 arg11_r0 arg12_r0 arg13_r0 k0_hw1 k0_h4 => k0_hw1.2.2.2.2.2.2.2.2.2.2.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off15 arg13_r0) a + S1x1x2500.size a ≤ S40x1x2500.size a := fun k0_t1 arg7_r0 arg8_r0 arg9_r0 arg10_r0 arg11_r0 arg12_r0 arg13_r0 k0_hw1 k0_h4 => k0_hw1.2.2.2.2.2.2.2.2.2.2.2.2.2.1 k0_h4
theorem k0_off15_wordsi8 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), (Rect.unit (s := S40x1x2500) (k0_off15 arg13_r0) S1x1x2500.size (k0_off15_inb k0_t1 arg7_r0 arg8_r0 arg9_r0 arg10_r0 arg11_r0 arg12_r0 arg13_r0 k0_hw1 k0_h4)).WholeWords (EltTy.packing .i8) := fun k0_t1 arg7_r0 arg8_r0 arg9_r0 arg10_r0 arg11_r0 arg12_r0 arg13_r0 k0_hw1 k0_h4 => k0_hw1.2.2.2.2.2.2.2.2.2.2.2.2.2.2.1 k0_h4 (k0_off15_inb k0_t1 arg7_r0 arg8_r0 arg9_r0 arg10_r0 arg11_r0 arg12_r0 arg13_r0 k0_hw1 k0_h4)
theorem k0_off14_wordsi8 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), (Rect.unit (s := S2x1x1x2500) (k0_off14 arg10_r0) S1x1x1x2500.size (k0_off14_inb k0_t1 arg7_r0 arg8_r0 arg9_r0 arg10_r0 arg11_r0 arg12_r0 arg13_r0 k0_hw1 k0_h4)).WholeWords (EltTy.packing .i8) := fun k0_t1 arg7_r0 arg8_r0 arg9_r0 arg10_r0 arg11_r0 arg12_r0 arg13_r0 k0_hw1 k0_h4 => k0_hw1.2.2.2.2.2.2.2.2.2.2.2.2.2.2.2.1 k0_h4 (k0_off14_inb k0_t1 arg7_r0 arg8_r0 arg9_r0 arg10_r0 arg11_r0 arg12_r0 arg13_r0 k0_hw1 k0_h4)
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h8 : k0_cond8 k0_t1 arg13_r0 = 1#1), ∀ a, (k0_off19 arg11_r0) a + S1.size a ≤ S2.size a := fun k0_t1 arg7_r0 arg8_r0 arg9_r0 arg10_r0 arg11_r0 arg12_r0 arg13_r0 k0_hw1 k0_h8 => k0_hw1.2.2.2.2.2.2.2.2.2.2.2.2.2.2.2.2.1 k0_h8
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h8 : k0_cond8 k0_t1 arg13_r0 = 1#1), ∀ a, (k0_off20 arg13_r0) a + S2500x128.size a ≤ S100000x128.size a := fun k0_t1 arg7_r0 arg8_r0 arg9_r0 arg10_r0 arg11_r0 arg12_r0 arg13_r0 k0_hw1 k0_h8 => k0_hw1.2.2.2.2.2.2.2.2.2.2.2.2.2.2.2.2.2.1 k0_h8
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h8 : k0_cond8 k0_t1 arg13_r0 = 1#1), ∀ a, (k0_off21 arg11_r0) a + S1x2500x128.size a ≤ S2x2500x128.size a := fun k0_t1 arg7_r0 arg8_r0 arg9_r0 arg10_r0 arg11_r0 arg12_r0 arg13_r0 k0_hw1 k0_h8 => k0_hw1.2.2.2.2.2.2.2.2.2.2.2.2.2.2.2.2.2.2.1 k0_h8
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h11 : k0_cond11 k0_t1 arg13_r0 = 1#1), ∀ a, (k0_off22 arg12_r0) a + S1.size a ≤ S2.size a := fun k0_t1 arg7_r0 arg8_r0 arg9_r0 arg10_r0 arg11_r0 arg12_r0 arg13_r0 k0_hw1 k0_h11 => k0_hw1.2.2.2.2.2.2.2.2.2.2.2.2.2.2.2.2.2.2.2.1 k0_h11
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h11 : k0_cond11 k0_t1 arg13_r0 = 1#1), ∀ a, (k0_off23 arg13_r0) a + S2500x128.size a ≤ S100000x128.size a := fun k0_t1 arg7_r0 arg8_r0 arg9_r0 arg10_r0 arg11_r0 arg12_r0 arg13_r0 k0_hw1 k0_h11 => k0_hw1.2.2.2.2.2.2.2.2.2.2.2.2.2.2.2.2.2.2.2.2.1 k0_h11
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h11 : k0_cond11 k0_t1 arg13_r0 = 1#1), ∀ a, (k0_off24 arg12_r0) a + S1x2500x128.size a ≤ S2x2500x128.size a := fun k0_t1 arg7_r0 arg8_r0 arg9_r0 arg10_r0 arg11_r0 arg12_r0 arg13_r0 k0_hw1 k0_h11 => k0_hw1.2.2.2.2.2.2.2.2.2.2.2.2.2.2.2.2.2.2.2.2.2 k0_h11

def k0_off25 (v34_5_r0 : BitVec 32) : Fin 1 → Nat :=
  let c2_i32_62_r0 : BitVec 32 := 2#32
  let v55_r0 : BitVec 32 := Scalar.remui v34_5_r0 c2_i32_62_r0
  ![v55_r0.toNat]

def k0_off26 (v34_6_r0 : BitVec 32) : Fin 2 → Nat :=
  let c2500_i32_r0 : BitVec 32 := 2500#32
  let true_43_r0 : BitVec 1 := 1#1
  let c1_i32_42_r0 : BitVec 32 := 1#32
  let v35_r0 : BitVec 32 := Scalar.subi v34_6_r0 c1_i32_42_r0
  let v36_r0 : BitVec 32 := Scalar.select true_43_r0 v35_r0 v34_6_r0
  let c_m1_i32_44_r0 : BitVec 32 := 4294967295#32
  let v37_r0 : BitVec 1 := Scalar.cmpi .eq v36_r0 c_m1_i32_44_r0
  let c39_i32_45_r0 : BitVec 32 := 39#32
  let v38_r0 : BitVec 32 := Scalar.select v37_r0 c39_i32_45_r0 v36_r0
  let c0_i32_46_r0 : BitVec 32 := 0#32
  let v39_r0 : BitVec 32 := Scalar.addi v38_r0 c0_i32_46_r0
  let v56_r0 : BitVec 32 := Scalar.muli c2500_i32_r0 v39_r0
  let c0_i32_63_r0 : BitVec 32 := 0#32
  ![v56_r0.toNat, 0]

def k0_chk6 (v34_6_r0 : BitVec 32) : Prop :=
  (∀ a, (k0_off26 v34_6_r0) a + S2500x128.size a ≤ S100000x128.size a)
theorem k0_off26_inb : ∀ (v34_6_r0 : BitVec 32) (k0_hw6 : k0_chk6 v34_6_r0), ∀ a, (k0_off26 v34_6_r0) a + S2500x128.size a ≤ S100000x128.size a := fun v34_6_r0 k0_hw6 => k0_hw6

def k0_off27 (v34_5_r0 : BitVec 32) : Fin 3 → Nat :=
  let c2_i32_62_r0 : BitVec 32 := 2#32
  let v55_r0 : BitVec 32 := Scalar.remui v34_5_r0 c2_i32_62_r0
  let c0_i32_64_r0 : BitVec 32 := 0#32
  let c0_i32_65_r0 : BitVec 32 := 0#32
  ![v55_r0.toNat, 0, 0]

def k0_chk5 (v34_5_r0 : BitVec 32) : Prop :=
  (∀ a, (k0_off25 v34_5_r0) a + S1.size a ≤ S2.size a) ∧
  (∀ a, (k0_off27 v34_5_r0) a + S1x2500x128.size a ≤ S2x2500x128.size a)
theorem k0_off25_inb : ∀ (v34_5_r0 : BitVec 32) (k0_hw5 : k0_chk5 v34_5_r0), ∀ a, (k0_off25 v34_5_r0) a + S1.size a ≤ S2.size a := fun v34_5_r0 k0_hw5 => k0_hw5.1
theorem k0_off27_inb : ∀ (v34_5_r0 : BitVec 32) (k0_hw5 : k0_chk5 v34_5_r0), ∀ a, (k0_off27 v34_5_r0) a + S1x2500x128.size a ≤ S2x2500x128.size a := fun v34_5_r0 k0_hw5 => k0_hw5.2

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S_ : Shape := ⟨0, ![]⟩
abbrev S1x128 : Shape := ⟨2, ![1, 128]⟩
abbrev S100000x1 : Shape := ⟨2, ![100000, 1]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x1, .i1⟩
  | .hbm, ⟨13, _⟩ => ⟨S100000x128, .i1⟩
  | .hbm, ⟨14, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.KernelIdeal.Words.lean ====
/-
  The words the pipelined loop carries, in closed form. Before trip `k` the seven carried 32-bit words are functions
  of `k` alone (`carried`): the two fetch counters run one ahead and stop at 40, the two consume counters and the
  write counter are `k`, the drain counter is one behind, the block counter is `k` and wraps to zero at the end. At
  those words every guard, slice offset and bounds check of a trip is a fact about a trip number below 40, decided
  here once.
-/
module

-- the two programs' modules form one chain of imports, this program's after the other's
public import proofs.«01_k».proof.Proof.Kernel.Run
public import proofs.«01_k».proof.Proof.Gen.KernelIdeal.Skeleton
public import proofs.«01_k».proof.Proof.Gen.KernelIdeal.Loops

@[expose] public section

namespace Cert.Proof.KernelIdeal

open Cert.KernelIdeal Cert.KernelIdeal.Gen
open Idealize.ShloMosaic

/-- The word of a count. -/
def wd (n : ℕ) : BitVec 32 := BitVec.ofNat 32 n
/-- The fetch counters before trip `k`: one ahead, stopping at the fortieth block. -/
def wNext (k : ℕ) : BitVec 32 := BitVec.ofNat 32 (min (k + 1) 40)
/-- The drain counter before trip `k`: one behind. -/
def wPrev (k : ℕ) : BitVec 32 := BitVec.ofNat 32 (k - 1)
/-- The block counter before trip `k`: it wraps to zero after the last block. -/
def wBlk (k : ℕ) : BitVec 32 := BitVec.ofNat 32 (k % 40)

/-- The seven words the loop carries, before trip `k`. -/
abbrev carried (k : ℕ) : BitVec 32 × BitVec 32 × BitVec 32 × BitVec 32 × BitVec 32 × BitVec 32 × BitVec 32 :=
  (wNext k, wd k, wNext k, wd k, wd k, wPrev k, wBlk k)

theorem trips_eq : k0_t1_loop.trips = 40 := by decide

/-! ### The guards -/

theorem cond1_fin : ∀ k : Fin k0_t1_loop.trips, k0_cond1 k (wBlk k.val) = 1#1 ↔ k.val < 39 := by decide +kernel
theorem cond2_fin : ∀ k : Fin k0_t1_loop.trips, k0_cond2 k (wBlk k.val) = 1#1 ↔ k.val < 39 := by decide +kernel
theorem cond3_fin : ∀ k : Fin k0_t1_loop.trips, k0_cond3 k (wBlk k.val) = 1#1 := by decide +kernel
theorem cond4_fin : ∀ k : Fin k0_t1_loop.trips, k0_cond4 k (wBlk k.val) = 1#1 := by decide +kernel
theorem cond8_fin : ∀ k : Fin k0_t1_loop.trips, k0_cond8 k (wBlk k.val) = 1#1 := by decide +kernel
theorem cond11_fin : ∀ k : Fin k0_t1_loop.trips, k0_cond11 k (wBlk k.val) = 1#1 ↔ 0 < k.val := by decide +kernel

/-! ### The checks -/

theorem chk1_fin : ∀ k : Fin k0_t1_loop.trips, k0_chk1 k (wNext k.val) (wd k.val) (wNext k.val) (wd k.val) (wd k.val) (wPrev k.val) (wBlk k.val) := by
  decide +kernel
theorem chk2_fin : ∀ k : Fin k0_t1_loop.trips, k0_chk2 (wd k.val) := by decide +kernel
theorem chk3_fin : ∀ k : Fin k0_t1_loop.trips, k0_chk3 (wd k.val) := by decide +kernel
theorem chk4_fin : ∀ k : Fin k0_t1_loop.trips, k0_chk4 (wd k.val) := by decide +kernel
theorem chk5_end : k0_chk5 (wPrev 40) := by decide +kernel
theorem chk6_end : k0_chk6 (wBlk 40) := by decide +kernel

/-! ### The offsets: a slot's number is its block's parity, a block's rows start at 2500 times its number -/

theorem off4_fin : ∀ k : Fin k0_t1_loop.trips, k.val < 39 → k0_off4 (wNext k.val) = ![(k.val + 1) % 2] := by decide +kernel
theorem off5_fin : ∀ k : Fin k0_t1_loop.trips, k.val < 39 → k0_off5 (wNext k.val) = ![(k.val + 1) % 2, 0, 0] := by decide +kernel
theorem off6_fin : ∀ k : Fin k0_t1_loop.trips, k.val < 39 → k0_off6 (wBlk k.val) = ![2500 * (k.val + 1), 0] := by decide +kernel
theorem off7_fin : ∀ k : Fin k0_t1_loop.trips, k.val < 39 → k0_off7 (wNext k.val) = ![(k.val + 1) % 2] := by decide +kernel
theorem off8_fin : ∀ k : Fin k0_t1_loop.trips, k.val < 39 → k0_off8 (wNext k.val) = ![(k.val + 1) % 2, 0, 0, 0] := by decide +kernel
theorem off9_fin : ∀ k : Fin k0_t1_loop.trips, k.val < 39 → k0_off9 (wBlk k.val) = ![k.val + 1, 0, 0] := by decide +kernel
theorem off10_fin : ∀ k : Fin k0_t1_loop.trips, k0_off10 (wd k.val) = ![k.val % 2] := by decide +kernel
theorem off11_fin : ∀ k : Fin k0_t1_loop.trips, k0_off11 (wd k.val) = ![k.val % 2, 0, 0] := by decide +kernel
theorem off12_fin : ∀ k : Fin k0_t1_loop.trips, k0_off12 (wBlk k.val) = ![2500 * k.val, 0] := by decide +kernel
theorem off13_fin : ∀ k : Fin k0_t1_loop.trips, k0_off13 (wd k.val) = ![k.val % 2] := by decide +kernel
theorem off14_fin : ∀ k : Fin k0_t1_loop.trips, k0_off14 (wd k.val) = ![k.val % 2, 0, 0, 0] := by decide +kernel
theorem off15_fin : ∀ k : Fin k0_t1_loop.trips, k0_off15 (wBlk k.val) = ![k.val, 0, 0] := by decide +kernel
theorem off16_fin : ∀ k : Fin k0_t1_loop.trips, k0_off16 (wd k.val) = ![k.val % 2, 0, 0] := by decide +kernel
theorem off17_fin : ∀ k : Fin k0_t1_loop.trips, k0_off17 (wd k.val) = ![k.val % 2, 0, 0, 0] := by decide +kernel
theorem off18_fin : ∀ k : Fin k0_t1_loop.trips, k0_off18 (wd k.val) = ![k.val % 2, 0, 0] := by decide +kernel
theorem off19_fin : ∀ k : Fin k0_t1_loop.trips, k0_off19 (wd k.val) = ![k.val % 2] := by decide +kernel
theorem off20_fin : ∀ k : Fin k0_t1_loop.trips, k0_off20 (wBlk k.val) = ![2500 * k.val, 0] := by decide +kernel
theorem off21_fin : ∀ k : Fin k0_t1_loop.trips, k0_off21 (wd k.val) = ![k.val % 2, 0, 0] := by decide +kernel
theorem off22_fin : ∀ k : Fin k0_t1_loop.trips, 0 < k.val → k0_off22 (wPrev k.val) = ![(k.val - 1) % 2] := by decide +kernel
theorem off23_fin : ∀ k : Fin k0_t1_loop.trips, 0 < k.val → k0_off23 (wBlk k.val) = ![2500 * (k.val - 1), 0] := by decide +kernel
theorem off24_fin : ∀ k : Fin k0_t1_loop.trips, 0 < k.val → k0_off24 (wPrev k.val) = ![(k.val - 1) % 2, 0, 0] := by decide +kernel
theorem off25_end : k0_off25 (wPrev 40) = ![1] := by decide +kernel
theorem off26_end : k0_off26 (wBlk 40) = ![97500, 0] := by decide +kernel
theorem off27_end : k0_off27 (wPrev 40) = ![1, 0, 0] := by decide +kernel

end Cert.Proof.KernelIdeal

end
-- ==== Proof.KernelIdeal.Names.lean ====
/-
  The names of the pipelined loop: block `b` of each array in HBM, slot `s` of each double buffer, slot `s`'s transfer
  cell; the equations that read the program's own slices as those names; and the pieces a trip handles — a block at
  home, a slot held, a cell at rest, a transfer in flight.
-/
module

public import proofs.«01_k».proof.Proof.KernelIdeal.Words
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ### Buffers, whole -/

abbrev xM : Memref sig .tc .hbm S100000x128 .f32 := Memref.whole main_arg0
abbrev tM : Memref sig .tc .hbm S40x1x2500 .i8 := Memref.whole main_v1
abbrev oM : Memref sig .tc .hbm S100000x128 .f32 := Memref.whole main_v3
abbrev xB : Memref sig .tc .vmem S2x2500x128 .f32 := Memref.whole cc0_scoped0
abbrev tB : Memref sig .tc .vmem S2x1x1x2500 .i8 := Memref.whole cc0_scoped2
abbrev oB : Memref sig .tc .vmem S2x2500x128 .f32 := Memref.whole cc0_scoped4

/-! ### Offsets -/

abbrev rowOff (b : Fin 40) : Fin 2 → Nat := ![2500 * b.val, 0]
theorem rowOff_inb (b : Fin 40) : ∀ a, rowOff b a + S2500x128.size a ≤ S100000x128.size a := by
  have := b.isLt; intro a; fin_cases a
  · show 2500 * b.val + 2500 ≤ 100000; omega
  · show 0 + 128 ≤ 128; omega
abbrev typeOff (b : Fin 40) : Fin 3 → Nat := ![b.val, 0, 0]
theorem typeOff_inb (b : Fin 40) : ∀ a, typeOff b a + S1x1x2500.size a ≤ S40x1x2500.size a := by
  have := b.isLt; intro a; fin_cases a
  · show b.val + 1 ≤ 40; omega
  · show 0 + 1 ≤ 1; omega
  · show 0 + 2500 ≤ 2500; omega
abbrev slotOff (s : Fin 2) : Fin 3 → Nat := ![s.val, 0, 0]
theorem slotOff_inb (s : Fin 2) : ∀ a, slotOff s a + S1x2500x128.size a ≤ S2x2500x128.size a := by
  have := s.isLt; intro a; fin_cases a
  · show s.val + 1 ≤ 2; omega
  · show 0 + 2500 ≤ 2500; omega
  · show 0 + 128 ≤ 128; omega
abbrev tslotOff (s : Fin 2) : Fin 4 → Nat := ![s.val, 0, 0, 0]
theorem tslotOff_inb (s : Fin 2) : ∀ a, tslotOff s a + S1x1x1x2500.size a ≤ S2x1x1x2500.size a := by
  have := s.isLt; intro a; fin_cases a
  · show s.val + 1 ≤ 2; omega
  · show 0 + 1 ≤ 1; omega
  · show 0 + 1 ≤ 1; omega
  · show 0 + 2500 ≤ 2500; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-! ### The names -/

/-- Rows `2500 b … 2500 b + 2499` of the input table. -/
def xblk (b : Fin 40) : Memref sig .tc .hbm S2500x128 .f32 := xM.slice (Rect.unit (s := S100000x128) (rowOff b) S2500x128.size (rowOff_inb b)) (fun _ => rfl)
/-- The type codes of those rows. -/
def tblk (b : Fin 40) : Memref sig .tc .hbm S1x1x2500 .i8 := tM.slice (Rect.unit (s := S40x1x2500) (typeOff b) S1x1x2500.size (typeOff_inb b)) (fun _ => rfl)
/-- The same rows of the result. -/
def oblk (b : Fin 40) : Memref sig .tc .hbm S2500x128 .f32 := oM.slice (Rect.unit (s := S100000x128) (rowOff b) S2500x128.size (rowOff_inb b)) (fun _ => rfl)
/-- Slot `s` of the rows' double buffer, -/
def xslot (s : Fin 2) : Memref sig .tc .vmem S2500x128 .f32 :=
  (xB.slice (Rect.unit (s := S2x2500x128) (slotOff s) S1x2500x128.size (slotOff_inb s)) (fun _ => rfl)).squeeze S2500x128 squeezes_S1x2500x128_S2500x128
/-- of the codes', -/
def tslot (s : Fin 2) : Memref sig .tc .vmem S1x1x2500 .i8 :=
  (tB.slice (Rect.unit (s := S2x1x1x2500) (tslotOff s) S1x1x1x2500.size (tslotOff_inb s)) (fun _ => rfl)).squeeze S1x1x2500 squeezes_S1x1x1x2500_S1x1x2500
/-- of the results'. -/
def oslot (s : Fin 2) : Memref sig .tc .vmem S2500x128 .f32 :=
  (oB.slice (Rect.unit (s := S2x2500x128) (slotOff s) S1x2500x128.size (slotOff_inb s)) (fun _ => rfl)).squeeze S2500x128 squeezes_S1x2500x128_S2500x128
/-- Their transfer cells. -/
def xcell (s : Fin 2) : DmaSems sig S_ := (cc0_scoped1.slice (Rect.unit (s := S2) (semOff s) S1.size (semOff_inb s))).squeeze S_ squeezes_S1_S_
def tcell (s : Fin 2) : DmaSems sig S_ := (cc0_scoped3.slice (Rect.unit (s := S2) (semOff s) S1.size (semOff_inb s))).squeeze S_ squeezes_S1_S_
def ocell (s : Fin 2) : DmaSems sig S_ := (cc0_scoped5.slice (Rect.unit (s := S2) (semOff s) S1.size (semOff_inb s))).squeeze S_ squeezes_S1_S_

instance (s : Fin 2) : ClosedOff (slotOff s) := ⟨slotOff s, rfl⟩
instance (s : Fin 2) : ClosedOff (tslotOff s) := ⟨tslotOff s, rfl⟩
instance (b : Fin 40) : ClosedOff (rowOff b) := ⟨rowOff b, rfl⟩
instance (b : Fin 40) : ClosedOff (typeOff b) := ⟨typeOff b, rfl⟩

/-! ### The offsets at the names -/

theorem sl_val (k : ℕ) : (Ring.sl 2 k).val = k % 2 := by simp [Ring.sl, Fin.ofNat]
theorem bk_val {k : ℕ} (h : k < 40) : (Ring.bk 40 k).val = k := Ring.bk_val h
theorem lt40 (k : Fin k0_t1_loop.trips) : k.val < 40 := Nat.lt_of_lt_of_eq k.isLt trips_eq

theorem semOff_sl (k : ℕ) : semOff (Ring.sl 2 k) = ![k % 2] := by rw [semOff, sl_val]
theorem slotOff_sl (k : ℕ) : slotOff (Ring.sl 2 k) = ![k % 2, 0, 0] := by rw [slotOff, sl_val]
theorem tslotOff_sl (k : ℕ) : tslotOff (Ring.sl 2 k) = ![k % 2, 0, 0, 0] := by rw [tslotOff, sl_val]
theorem rowOff_bk {k : ℕ} (h : k < 40) : rowOff (Ring.bk 40 k) = ![2500 * k, 0] := by rw [rowOff, bk_val h]
theorem typeOff_bk {k : ℕ} (h : k < 40) : typeOff (Ring.bk 40 k) = ![k, 0, 0] := by rw [typeOff, bk_val h]
theorem prev_mod {k : ℕ} (h : 0 < k) : (k - 1) % 2 = (k + 1) % 2 := by omega

section Canon
variable (k : Fin k0_t1_loop.trips)

theorem off16_eq : k0_off16 (wd k.val) = slotOff (Ring.sl 2 k.val) := by rw [off16_fin, slotOff_sl]
theorem off17_eq : k0_off17 (wd k.val) = tslotOff (Ring.sl 2 k.val) := by rw [off17_fin, tslotOff_sl]
theorem off18_eq : k0_off18 (wd k.val) = slotOff (Ring.sl 2 k.val) := by rw [off18_fin, slotOff_sl]

instance : ClosedOff (k0_off16 (wd k.val)) := ⟨slotOff (Ring.sl 2 k.val), off16_eq k⟩
instance : ClosedOff (k0_off17 (wd k.val)) := ⟨tslotOff (Ring.sl 2 k.val), off17_eq k⟩
instance : ClosedOff (k0_off18 (wd k.val)) := ⟨slotOff (Ring.sl 2 k.val), off18_eq k⟩

theorem xcell_congr {off : Fin 1 → Nat} {s : Fin 2} (e : off = semOff s) (hh) :
    (cc0_scoped1.slice (Rect.unit (s := S2) off S1.size hh)).squeeze S_ squeezes_S1_S_ = xcell s :=
  congrArg (fun A : DmaSems sig S1 => A.squeeze S_ squeezes_S1_S_) (SemArray.slice_unit_congr _ e _ _)
theorem tcell_congr {off : Fin 1 → Nat} {s : Fin 2} (e : off = semOff s) (hh) :
    (cc0_scoped3.slice (Rect.unit (s := S2) off S1.size hh)).squeeze S_ squeezes_S1_S_ = tcell s :=
  congrArg (fun A : DmaSems sig S1 => A.squeeze S_ squeezes_S1_S_) (SemArray.slice_unit_congr _ e _ _)
theorem ocell_congr {off : Fin 1 → Nat} {s : Fin 2} (e : off = semOff s) (hh) :
    (cc0_scoped5.slice (Rect.unit (s := S2) off S1.size hh)).squeeze S_ squeezes_S1_S_ = ocell s :=
  congrArg (fun A : DmaSems sig S1 => A.squeeze S_ squeezes_S1_S_) (SemArray.slice_unit_congr _ e _ _)
theorem xslot_congr {off : Fin 3 → Nat} {s : Fin 2} (e : off = slotOff s) (hh hs) :
    (xB.slice (Rect.unit (s := S2x2500x128) off S1x2500x128.size hh) hs).squeeze S2500x128 squeezes_S1x2500x128_S2500x128 = xslot s :=
  congrArg (fun M : Memref sig .tc .vmem S1x2500x128 .f32 => M.squeeze S2500x128 squeezes_S1x2500x128_S2500x128) (Memref.slice_unit_congr _ e _ _ _ _)
theorem tslot_congr {off : Fin 4 → Nat} {s : Fin 2} (e : off = tslotOff s) (hh hs) :
    (tB.slice (Rect.unit (s := S2x1x1x2500) off S1x1x1x2500.size hh) hs).squeeze S1x1x2500 squeezes_S1x1x1x2500_S1x1x2500 = tslot s :=
  congrArg (fun M : Memref sig .tc .vmem S1x1x1x2500 .i8 => M.squeeze S1x1x2500 squeezes_S1x1x1x2500_S1x1x2500) (Memref.slice_unit_congr _ e _ _ _ _)
theorem oslot_congr {off : Fin 3 → Nat} {s : Fin 2} (e : off = slotOff s) (hh hs) :
    (oB.slice (Rect.unit (s := S2x2500x128) off S1x2500x128.size hh) hs).squeeze S2500x128 squeezes_S1x2500x128_S2500x128 = oslot s :=
  congrArg (fun M : Memref sig .tc .vmem S1x2500x128 .f32 => M.squeeze S2500x128 squeezes_S1x2500x128_S2500x128) (Memref.slice_unit_congr _ e _ _ _ _)
theorem xblk_congr {off : Fin 2 → Nat} {b : Fin 40} (e : off = rowOff b) (hh hs) :
    xM.slice (Rect.unit (s := S100000x128) off S2500x128.size hh) hs = xblk b := Memref.slice_unit_congr _ e _ _ _ (fun _ => rfl)
theorem tblk_congr {off : Fin 3 → Nat} {b : Fin 40} (e : off = typeOff b) (hh hs) :
    tM.slice (Rect.unit (s := S40x1x2500) off S1x1x2500.size hh) hs = tblk b := Memref.slice_unit_congr _ e _ _ _ (fun _ => rfl)
theorem oblk_congr {off : Fin 2 → Nat} {b : Fin 40} (e : off = rowOff b) (hh hs) :
    oM.slice (Rect.unit (s := S100000x128) off S2500x128.size hh) hs = oblk b := Memref.slice_unit_congr _ e _ _ _ (fun _ => rfl)

/-! Before the loop: block 0 into slot 0. -/
@[sl_canon] theorem c1x (hh) : (cc0_scoped1.slice (Rect.unit (s := S2) k0_off1 S1.size hh)).squeeze S_ squeezes_S1_S_ = xcell 0 := xcell_congr (by decide +kernel) _
@[sl_canon] theorem c1t (hh) : (cc0_scoped3.slice (Rect.unit (s := S2) k0_off1 S1.size hh)).squeeze S_ squeezes_S1_S_ = tcell 0 := tcell_congr (by decide +kernel) _
@[sl_canon] theorem c2 (hh hs) : (xB.slice (Rect.unit (s := S2x2500x128) k0_off2 S1x2500x128.size hh) hs).squeeze S2500x128 squeezes_S1x2500x128_S2500x128 = xslot 0 := xslot_congr (by decide +kernel) _ _
@[sl_canon] theorem c3 (hh hs) : (tB.slice (Rect.unit (s := S2x1x1x2500) k0_off3 S1x1x1x2500.size hh) hs).squeeze S1x1x2500 squeezes_S1x1x1x2500_S1x1x2500 = tslot 0 := tslot_congr (by decide +kernel) _ _
@[sl_canon] theorem cx0 (hh hs) : xM.slice (Rect.unit (s := S100000x128) ![0, 0] S2500x128.size hh) hs = xblk 0 := xblk_congr (by decide +kernel) _ _
@[sl_canon] theorem ct0 (hh hs) : tM.slice (Rect.unit (s := S40x1x2500) ![0, 0, 0] S1x1x2500.size hh) hs = tblk 0 := tblk_congr (by decide +kernel) _ _

/-! Trip `k`: the next block fetched into the other slot. -/
@[sl_canon] theorem c4 (hk : k.val < 39) (hh) : (cc0_scoped1.slice (Rect.unit (s := S2) (k0_off4 (wNext k.val)) S1.size hh)).squeeze S_ squeezes_S1_S_ = xcell (Ring.sl 2 (k.val + 1)) :=
  xcell_congr (by rw [off4_fin k hk, semOff_sl]) _
@[sl_canon] theorem c5 (hk : k.val < 39) (hh hs) : (xB.slice (Rect.unit (s := S2x2500x128) (k0_off5 (wNext k.val)) S1x2500x128.size hh) hs).squeeze S2500x128 squeezes_S1x2500x128_S2500x128 = xslot (Ring.sl 2 (k.val + 1)) :=
  xslot_congr (by rw [off5_fin k hk, slotOff_sl]) _ _
@[sl_canon] theorem c6 (hk : k.val < 39) (hh hs) : xM.slice (Rect.unit (s := S100000x128) (k0_off6 (wBlk k.val)) S2500x128.size hh) hs = xblk (Ring.bk 40 (k.val + 1)) :=
  xblk_congr (by rw [off6_fin k hk, rowOff_bk (by omega)]) _ _
@[sl_canon] theorem c7 (hk : k.val < 39) (hh) : (cc0_scoped3.slice (Rect.unit (s := S2) (k0_off7 (wNext k.val)) S1.size hh)).squeeze S_ squeezes_S1_S_ = tcell (Ring.sl 2 (k.val + 1)) :=
  tcell_congr (by rw [off7_fin k hk, semOff_sl]) _
@[sl_canon] theorem c8 (hk : k.val < 39) (hh hs) : (tB.slice (Rect.unit (s := S2x1x1x2500) (k0_off8 (wNext k.val)) S1x1x1x2500.size hh) hs).squeeze S1x1x2500 squeezes_S1x1x1x2500_S1x1x2500 = tslot (Ring.sl 2 (k.val + 1)) :=
  tslot_congr (by rw [off8_fin k hk, tslotOff_sl]) _ _
@[sl_canon] theorem c9 (hk : k.val < 39) (hh hs) : tM.slice (Rect.unit (s := S40x1x2500) (k0_off9 (wBlk k.val)) S1x1x2500.size hh) hs = tblk (Ring.bk 40 (k.val + 1)) :=
  tblk_congr (by rw [off9_fin k hk, typeOff_bk (by omega)]) _ _

/-! This block waited for in its slot. -/
@[sl_canon] theorem c10 (hh) : (cc0_scoped1.slice (Rect.unit (s := S2) (k0_off10 (wd k.val)) S1.size hh)).squeeze S_ squeezes_S1_S_ = xcell (Ring.sl 2 k.val) :=
  xcell_congr (by rw [off10_fin k, semOff_sl]) _
@[sl_canon] theorem c11 (hh hs) : (xB.slice (Rect.unit (s := S2x2500x128) (k0_off11 (wd k.val)) S1x2500x128.size hh) hs).squeeze S2500x128 squeezes_S1x2500x128_S2500x128 = xslot (Ring.sl 2 k.val) :=
  xslot_congr (by rw [off11_fin k, slotOff_sl]) _ _
@[sl_canon] theorem c12 (hh hs) : xM.slice (Rect.unit (s := S100000x128) (k0_off12 (wBlk k.val)) S2500x128.size hh) hs = xblk (Ring.bk 40 k.val) :=
  xblk_congr (by rw [off12_fin k, rowOff_bk (lt40 k)]) _ _
@[sl_canon] theorem c13 (hh) : (cc0_scoped3.slice (Rect.unit (s := S2) (k0_off13 (wd k.val)) S1.size hh)).squeeze S_ squeezes_S1_S_ = tcell (Ring.sl 2 k.val) :=
  tcell_congr (by rw [off13_fin k, semOff_sl]) _
@[sl_canon] theorem c14 (hh hs) : (tB.slice (Rect.unit (s := S2x1x1x2500) (k0_off14 (wd k.val)) S1x1x1x2500.size hh) hs).squeeze S1x1x2500 squeezes_S1x1x1x2500_S1x1x2500 = tslot (Ring.sl 2 k.val) :=
  tslot_congr (by rw [off14_fin k, tslotOff_sl]) _ _
@[sl_canon] theorem c15 (hh hs) : tM.slice (Rect.unit (s := S40x1x2500) (k0_off15 (wBlk k.val)) S1x1x2500.size hh) hs = tblk (Ring.bk 40 k.val) :=
  tblk_congr (by rw [off15_fin k, typeOff_bk (lt40 k)]) _ _

/-! Its result sent out, and the one before it waited for. -/
@[sl_canon] theorem c19 (hh) : (cc0_scoped5.slice (Rect.unit (s := S2) (k0_off19 (wd k.val)) S1.size hh)).squeeze S_ squeezes_S1_S_ = ocell (Ring.sl 2 k.val) :=
  ocell_congr (by rw [off19_fin k, semOff_sl]) _
@[sl_canon] theorem c20 (hh hs) : oM.slice (Rect.unit (s := S100000x128) (k0_off20 (wBlk k.val)) S2500x128.size hh) hs = oblk (Ring.bk 40 k.val) :=
  oblk_congr (by rw [off20_fin k, rowOff_bk (lt40 k)]) _ _
@[sl_canon] theorem c21 (hh hs) : (oB.slice (Rect.unit (s := S2x2500x128) (k0_off21 (wd k.val)) S1x2500x128.size hh) hs).squeeze S2500x128 squeezes_S1x2500x128_S2500x128 = oslot (Ring.sl 2 k.val) :=
  oslot_congr (by rw [off21_fin k, slotOff_sl]) _ _
@[sl_canon] theorem c22 (hk : 0 < k.val) (hh) : (cc0_scoped5.slice (Rect.unit (s := S2) (k0_off22 (wPrev k.val)) S1.size hh)).squeeze S_ squeezes_S1_S_ = ocell (Ring.sl 2 (k.val + 1)) :=
  ocell_congr (by rw [off22_fin k hk, semOff_sl, prev_mod hk]) _
@[sl_canon] theorem c23 (hk : 0 < k.val) (hh hs) : oM.slice (Rect.unit (s := S100000x128) (k0_off23 (wBlk k.val)) S2500x128.size hh) hs = oblk (Ring.bk 40 (k.val - 1)) :=
  oblk_congr (by have := lt40 k; rw [off23_fin k hk, rowOff_bk (by omega)]) _ _
@[sl_canon] theorem c24 (hk : 0 < k.val) (hh hs) : (oB.slice (Rect.unit (s := S2x2500x128) (k0_off24 (wPrev k.val)) S1x2500x128.size hh) hs).squeeze S2500x128 squeezes_S1x2500x128_S2500x128 = oslot (Ring.sl 2 (k.val + 1)) :=
  oslot_congr (by rw [off24_fin k hk, slotOff_sl, prev_mod hk]) _ _

/-! After the loop: the last result waited for. -/
@[sl_canon] theorem c25 (hh) : (cc0_scoped5.slice (Rect.unit (s := S2) (k0_off25 39#32) S1.size hh)).squeeze S_ squeezes_S1_S_ = ocell 1 := ocell_congr off25_end _
@[sl_canon] theorem c26 (hh hs) : oM.slice (Rect.unit (s := S100000x128) (k0_off26 0#32) S2500x128.size hh) hs = oblk 39 := oblk_congr off26_end _ _
@[sl_canon] theorem c27 (hh hs) : (oB.slice (Rect.unit (s := S2x2500x128) (k0_off27 39#32) S1x2500x128.size hh) hs).squeeze S2500x128 squeezes_S1x2500x128_S2500x128 = oslot 1 := oslot_congr off27_end _ _

end Canon

/-! ### The pieces -/

section Pieces
variable (c : Dev nD) (XA : Buf (Elt F) (xM.view.loc (c : Thread nD τ))) (TA : Buf (Elt F) (tM.view.loc (c : Thread nD τ)))

/-- Cells at rest. -/
abbrev xcellP (s : Fin 2) : sProp 𝕄 := semVal ((c : Thread nD τ), SemLoc.dma (xcell s).sem) 0
abbrev tcellP (s : Fin 2) : sProp 𝕄 := semVal ((c : Thread nD τ), SemLoc.dma (tcell s).sem) 0
abbrev ocellP (s : Fin 2) : sProp 𝕄 := semVal ((c : Thread nD τ), SemLoc.dma (ocell s).sem) 0
/-- Slots held, at contents `f`. -/
abbrev xslotP (s : Fin 2) (f : Buf (Elt F) ((xslot s).view.loc (c : Thread nD τ))) : sProp 𝕄 :=
  (xslot s).view.loc (c : Thread nD τ) ↦[(xslot s).view.set]{fullShare} f
abbrev tslotP (s : Fin 2) (f : Buf (Elt F) ((tslot s).view.loc (c : Thread nD τ))) : sProp 𝕄 :=
  (tslot s).view.loc (c : Thread nD τ) ↦[(tslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Blocks at home. -/
abbrev xhome (b : Fin 40) : sProp 𝕄 := (xblk b).view.loc (c : Thread nD τ) ↦[(xblk b).view.set]{fullShare} XA
abbrev thome (b : Fin 40) : sProp 𝕄 := (tblk b).view.loc (c : Thread nD τ) ↦[(tblk b).view.set]{fullShare} TA
abbrev ohome (Y : Buf (Elt F) (oM.view.loc (c : Thread nD τ))) (b : Fin 40) : sProp 𝕄 :=
  (oblk b).view.loc (c : Thread nD τ) ↦[(oblk b).view.set]{fullShare} Y

/-- What a block's transfer carries. -/
abbrev xpay (b : Fin 40) : S2500x128.Idx → Elt F .f32 := ReadAs.same.apply ((xblk b).view.read (Elt F) XA)
abbrev tpay (b : Fin 40) : S1x1x2500.Idx → Elt F .i8 := ReadAs.same.apply ((tblk b).view.read (Elt F) TA)

/-- Block `b` on its way into slot `s`, over prior contents `f`. -/
abbrev xflight (s : Fin 2) (b : Fin 40) (f : Buf (Elt F) ((xslot s).view.loc (c : Thread nD τ))) : sProp 𝕄 :=
  Transfers.Flight countersEmb (c : Thread nD τ) (SemLoc.dma (xcell s).sem) () 40000
    iprop(xslotP c s ((xslot s).view.writes (Elt F) f [⟨Rect.whole S2500x128, xpay c XA b⟩]) ∗ xhome c XA b)
abbrev tflight (s : Fin 2) (b : Fin 40) (f : Buf (Elt F) ((tslot s).view.loc (c : Thread nD τ))) : sProp 𝕄 :=
  Transfers.Flight countersEmb (c : Thread nD τ) (SemLoc.dma (tcell s).sem) () 2560
    iprop(tslotP c s ((tslot s).view.writes (Elt F) f [⟨Rect.whole S1x1x2500, tpay c TA b⟩]) ∗ thome c TA b)

theorem xamount (s : Fin 2) : (xslot s).view.amount (SemLoc.dma (xcell s).sem) = 40000 := by rfl
theorem oamount (b : Fin 40) : (oblk b).view.amount (SemLoc.dma (ocell 0).sem) = 40000 := by rfl
theorem tamount (s : Fin 2) : (tslot s).view.amount (SemLoc.dma (tcell s).sem) = 2560 := by rfl

end Pieces

end Cert.Proof.KernelIdeal

end
-- ==== Proof.KernelIdeal.Block.lean ====
/-
  What one block computes, and the array of all of them: the payload a trip stores is `blockOut` of the block's rows and
  codes, and the result array holds, at row `n`, row `n % 2500` of block `n / 2500`'s.
-/
module

public import proofs.«01_k».proof.Proof.KernelIdeal.Names
public import proofs.«01_k».proof.Proof.Gen.KernelIdeal.Skeleton
public import Idealize.ShloMosaic.Lib.ViewIndex
public import Idealize.ShloMosaic.Lib.Pipeline.Value

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ### One block -/

/-- One block of the result: where a row's code is 1 the row times the weights, plus the bias; elsewhere the row. -/
def blockOut (W : Vec F S128x128 .f32) (b2 : FVec F S1x128 .f32) (x : S2500x128.Idx → Elt F .f32) (t : S1x1x2500.Idx → Elt F .i8) :
    S2500x128.Idx → Elt F .f32 :=
  select (broadcastTo S2500x128 (cmpi .eq (transpose S2500x1 [1, 0] (shapeCast S1x2500 t shapeCasts_S1x1x2500_S1x2500) transposes_S1x2500_p1_0_S2500x1)
      (broadcast S2500x1 1#8)) broadcasts_S2500x1_S2500x128)
    (addf (matmul dot_S2500x128_S128x128_S2500x128_1_1_0_0_n_n none x W (constant S2500x128 .f32 0#32)) (broadcastTo S2500x128 b2 broadcasts_S1x128_S2500x128))
    x

theorem pay2_eq (W : Vec F S128x128 .f32) (b2 : FVec F S1x128 .f32) (x : FVec F S2500x128 .f32) (t : Vec F S1x1x1x2500 .i8) :
    shapeCast S2500x128 (k0_pay2 W b2 x (constant S2500x128 .f32 0#32) t) shapeCasts_S1x2500x128_S2500x128
      = blockOut W b2 x (shapeCast S1x1x2500 t shapeCasts_S1x1x1x2500_S1x1x2500) := by
  unfold k0_pay2 blockOut
  simp only [shapeCast_shapeCast, shapeCast_self]

/-! ### A slot read and written through its whole buffer -/

theorem load_x {off : Fin 3 → Nat} {s : Fin 2} (e : off = slotOff s) (hin) (f : (xslot s).view.ty.Contents (Elt F)) (p : S2500x128.Idx → Elt F .f32) :
    shapeCast S2500x128 (xB.view.readAt (Elt F) (Rect.unit (s := S2x2500x128) off S1x2500x128.size hin).toLoadRect
      ((xslot s).view.writes (Elt F) f [⟨Rect.whole S2500x128, p⟩])) shapeCasts_S1x2500x128_S2500x128 = p := by
  subst e; exact View.read_writes_whole (xslot s).view f p

theorem load_t {off : Fin 4 → Nat} {s : Fin 2} (e : off = tslotOff s) (hin) (f : (tslot s).view.ty.Contents (Elt F)) (p : S1x1x2500.Idx → Elt F .i8) :
    shapeCast S1x1x2500 (tB.view.readAt (Elt F) (Rect.unit (s := S2x1x1x2500) off S1x1x1x2500.size hin).toLoadRect
      ((tslot s).view.writes (Elt F) f [⟨Rect.whole S1x1x2500, p⟩])) shapeCasts_S1x1x1x2500_S1x1x2500 = p := by
  subst e; exact View.read_writes_whole (tslot s).view f p

theorem store_o {off : Fin 3 → Nat} {s : Fin 2} (e : off = slotOff s) (hin) (f : (oB.access (Rect.unit (s := S2x2500x128) off S1x2500x128.size hin)).ty.Contents (Elt F))
    (w : S1x2500x128.Idx → Elt F .f32) :
    (oslot s).view.read (Elt F) ((oB.access (Rect.unit (s := S2x2500x128) off S1x2500x128.size hin)).write (Elt F) f w Finset.univ)
      = shapeCast S2500x128 w shapeCasts_S1x2500x128_S2500x128 := by
  subst e
  funext y
  exact congrFun (View.read_write_univ (v := oB.access (Rect.unit (s := S2x2500x128) (slotOff s) S1x2500x128.size hin)) f w)
    (Shape.reshapeEquiv shapeCasts_S1x2500x128_S2500x128 y)

/-! ### The array -/

section Arr
variable (c : Dev nD) (XA : Buf (Elt F) (xM.view.loc (c : Thread nD τ))) (TA : Buf (Elt F) (tM.view.loc (c : Thread nD τ)))
variable (W : Vec F S128x128 .f32) (b2 : FVec F S1x128 .f32)

/-- The block row `n` lies in, and its place there. -/
def blkOf (j : S100000x128.Idx) : Fin 40 := ⟨(j 0).val / 2500, by have h : (j 0).val < 100000 := (j 0).isLt; omega⟩
def rowOf (j : S100000x128.Idx) : S2500x128.Idx :=
  Shape.pair (d := ![2500, 128]) (⟨(j 0).val % 2500, Nat.mod_lt _ (by decide)⟩ : Fin 2500) (j 1)

/-- Block `b` of the result. -/
abbrev outBlk (b : Fin 40) : S2500x128.Idx → Elt F .f32 := blockOut W b2 (xpay c XA b) (tpay c TA b)
/-- The result. -/
def outArr : Buf (Elt F) (oM.view.loc (c : Thread nD τ)) := fun j : S100000x128.Idx => outBlk c XA TA W b2 (blkOf j) (rowOf j)

theorem pair_ext {d : Fin 2 → Nat} {x y : (⟨2, d⟩ : Shape).Idx} (h0 : (x 0).val = (y 0).val) (h1 : (x 1).val = (y 1).val) : x = y := by
  rw [← Shape.pair_eta x, ← Shape.pair_eta y, Fin.ext h0, Fin.ext h1]

theorem oblk_emb (b : Fin 40) (y : S2500x128.Idx) :
    blkOf ((oblk b).view.emb y) = b ∧ rowOf ((oblk b).view.emb y) = y := by
  have aux : ∀ z : S100000x128.Idx, (z 0).val = 2500 * b.val + 1 * (y 0).val → (z 1).val = 0 + 1 * (y 1).val → blkOf z = b ∧ rowOf z = y := by
    intro z h0 h1
    have hy : (y 0).val < 2500 := (y 0).isLt
    constructor
    · apply Fin.ext; show (z 0).val / 2500 = b.val; omega
    · apply pair_ext
      · show (z 0).val % 2500 = (y 0).val; omega
      · show (z 1).val = (y 1).val; omega
  exact aux _ rfl rfl

theorem read_outArr (b : Fin 40) : (oblk b).view.read (Elt F) (outArr c XA TA W b2) = outBlk c XA TA W b2 b := by
  funext y
  show outBlk c XA TA W b2 (blkOf ((oblk b).view.emb y)) (rowOf ((oblk b).view.emb y)) = _
  rw [(oblk_emb b y).1, (oblk_emb b y).2]

/-- A block delivered is the block of the result. -/
theorem delivered (Y : Buf (Elt F) (oM.view.loc (c : Thread nD τ))) (b : Fin 40) (p : S2500x128.Idx → Elt F .f32) (hp : p = outBlk c XA TA W b2 b) :
    ((oblk b).view.loc (c : Thread nD τ) ↦[(oblk b).view.set]{fullShare} (oblk b).view.writes (Elt F) Y [⟨Rect.whole S2500x128, p⟩] : sProp 𝕄)
      = ohome c (outArr c XA TA W b2) b := by
  refine pointsTo_congr fun i hi => ?_
  obtain ⟨y, -, rfl⟩ := Finset.mem_map.mp hi
  refine View.eq_of_read_eq (v := (oblk b).view) ?_
  exact (congrFun (View.read_writes_whole (oblk b).view Y p) y).trans (congrFun (hp.trans (read_outArr c XA TA W b2 b).symm) y)
end Arr

end Cert.Proof.KernelIdeal

end
-- ==== Proof.KernelIdeal.Trip.lean ====
/-
  One trip of the loop at a symbolic trip number: the next block is sent for, this block is waited for, computed and sent
  out, the block before it is waited for. The first trip has no block before it and the last none after it.
-/
module

public import proofs.«01_k».proof.Proof.KernelIdeal.Block
public import proofs.«01_k».proof.Proof.Gen.KernelIdeal.Loops

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Pieces
variable (c : Dev nD) (XA : Buf (Elt F) (xM.view.loc (c : Thread nD τ))) (TA : Buf (Elt F) (tM.view.loc (c : Thread nD τ)))
  (G : Buf (Elt F) (oM.view.loc (c : Thread nD τ)))

/-- The core waits for nothing it owes. -/
def owing : sProp 𝕄 := iprop(∃ W, owes (c : Thread nD τ) 0 W)
/-- A slot and its cell at rest. -/
def xidle (s : Fin 2) : sProp 𝕄 := iprop((∃ f, xslotP c s f) ∗ xcellP (F := F) c s)
def tidle (s : Fin 2) : sProp 𝕄 := iprop((∃ f, tslotP c s f) ∗ tcellP (F := F) c s)
def oidle (s : Fin 2) : sProp 𝕄 := iprop((∃ f, oslotP c s f) ∗ ocellP (F := F) c s)
/-- Block `b` on its way into slot `s`, -/
def xfly (s : Fin 2) (b : Fin 40) : sProp 𝕄 := iprop(∃ f, xflight c XA s b f)
def tfly (s : Fin 2) (b : Fin 40) : sProp 𝕄 := iprop(∃ f, tflight c TA s b f)
/-- and out of it, to arrive as block `b` of `G`. -/
def ofly (s : Fin 2) (b : Fin 40) : sProp 𝕄 :=
  iprop(∃ g, Transfers.Flight countersEmb (c : Thread nD τ) (SemLoc.dma (ocell s).sem) () 40000 iprop(ohome c G b ∗ oslotP c s g))
end Pieces

variable (c : Dev nD) (XA : Buf (Elt F) (xM.view.loc (c : Thread nD τ))) (TA : Buf (Elt F) (tM.view.loc (c : Thread nD τ)))
variable (i : grid0.Coords)
  (arg3 : Memref sig .tc .vmem S128x128 .f32) (harg3 : arg3.IsWhole) (arg4 : Memref sig .tc .vmem S1x128 .f32) (harg4 : arg4.IsWhole)
  (v0 : Vec F S128x128 .f32) (v2 : FVec F S1x128 .f32)

/-- The loop's body, at the buffers the call hands it. -/
abbrev tripG (k : Fin k0_t1_loop.trips) : Prog (TpuEff nD τ sig (Elt F) Λ₀ .tc) (BitVec 32 × BitVec 32 × BitVec 32 × BitVec 32 × BitVec 32 × BitVec 32 × BitVec 32) :=
  k0_t1_body (F := F) i xM (Memref.isWhole_whole _) tM (Memref.isWhole_whole _) arg3 harg3 arg4 harg4 oM (Memref.isWhole_whole _)
    xB (Memref.isWhole_whole _) cc0_scoped1 tB (Memref.isWhole_whole _) cc0_scoped3 oB (Memref.isWhole_whole _) cc0_scoped5 v0 v2 1#32 k (carried k.val)

set_option backward.proofsInPublic true in
set_option maxHeartbeats 1000000 in
/-- A trip with a block before it and one after it. -/
theorem tripMid (k : Fin k0_t1_loop.trips) (h0 : 0 < k.val) (h39 : k.val < 39) (Y : Buf (Elt F) (oM.view.loc (c : Thread nD τ))) :
    iprop(owing (F := F) c ∗ xhome c XA (Ring.bk 40 (k.val + 1)) ∗ thome c TA (Ring.bk 40 (k.val + 1)) ∗ ohome (F := F) c Y (Ring.bk 40 k.val)
      ∗ xfly c XA (Ring.sl 2 k.val) (Ring.bk 40 k.val) ∗ tfly c TA (Ring.sl 2 k.val) (Ring.bk 40 k.val)
      ∗ xidle (F := F) c (Ring.sl 2 (k.val + 1)) ∗ tidle (F := F) c (Ring.sl 2 (k.val + 1)) ∗ oidle (F := F) c (Ring.sl 2 k.val) ∗ ofly c (outArr c XA TA v0 v2) (Ring.sl 2 (k.val + 1)) (Ring.bk 40 (k.val - 1)))
    ⊢ wp frame (wpE (defs₀ (F := F)) 𝒱₀ (c : Thread nD τ) none) Set.univ (tripG i arg3 harg3 arg4 harg4 v0 v2 k)
        (fun acc => iprop(⌜acc = carried (k.val + 1)⌝ ∗ owing (F := F) c ∗ xhome c XA (Ring.bk 40 k.val) ∗ thome c TA (Ring.bk 40 k.val)
          ∗ xidle (F := F) c (Ring.sl 2 k.val) ∗ tidle (F := F) c (Ring.sl 2 k.val) ∗ oidle (F := F) c (Ring.sl 2 (k.val + 1))
          ∗ ofly c (outArr c XA TA v0 v2) (Ring.sl 2 k.val) (Ring.bk 40 k.val)
          ∗ xfly c XA (Ring.sl 2 (k.val + 1)) (Ring.bk 40 (k.val + 1)) ∗ tfly c TA (Ring.sl 2 (k.val + 1)) (Ring.bk 40 (k.val + 1)) ∗ ohome c (outArr c XA TA v0 v2) (Ring.bk 40 (k.val - 1)))) := by
  have hC1 := (cond1_fin k).mpr h39
  have hC2 := (cond2_fin k).mpr h39
  have hC3 := cond3_fin k
  have hC4 := cond4_fin k
  have hC8 := cond8_fin k
  have hC11 := (cond11_fin k).mpr h0
  have hk1 := chk1_fin k
  have hk2 := chk2_fin k
  have hk3 := chk3_fin k
  have hk4 := chk4_fin k
  unfold owing xfly tfly xidle tidle oidle ofly
  iintro ⟨⟨%W, HO⟩, Hx, Ht, Ho, ⟨%fx, HFx⟩, ⟨%ft, HFt⟩, ⟨⟨%fx1, Hxs⟩, Hxc⟩, ⟨⟨%ft1, Hts⟩, Htc⟩, ⟨⟨%fo, Hos⟩, Hoc⟩, ⟨%go, HFo⟩⟩
  dsimp only [tripG]
  sl_unfold [k0_t1_body]
  sl_exec
  sl_step
  have w1 : ∀ k : Fin k0_t1_loop.trips, 0 < k.val → k.val < 39 → tripMid.sl.v89_r0 k = wNext (k.val + 1) := by decide +kernel
  have w2 : ∀ k : Fin k0_t1_loop.trips, 0 < k.val → k.val < 39 → tripMid.sl.v161_r0 k = wd (k.val + 1) := by decide +kernel
  have w3 : ∀ k : Fin k0_t1_loop.trips, 0 < k.val → k.val < 39 → tripMid.sl.v181_r0 k = wPrev (k.val + 1) := by decide +kernel
  have w4 : ∀ k : Fin k0_t1_loop.trips, 0 < k.val → k.val < 39 → tripMid.sl.v73_r0 k = wBlk (k.val + 1) := by decide +kernel
  isplitr
  · ipureintro
    rw [w1 k h0 h39, w2 k h0 h39, w3 k h0 h39, w4 k h0 h39]
  have hx : tripMid.sl.r c XA k hk2 = xpay c XA (Ring.bk 40 k.val) := by
    unfold tripMid.sl.r tripMid.sl.v126_r0 k0_pay1
    exact load_x (off16_eq k) _ _ _
  have ht : shapeCast S1x1x2500 (tripMid.sl.v130_r0 c TA k hk3) shapeCasts_S1x1x1x2500_S1x1x2500 = tpay c TA (Ring.bk 40 k.val) := by
    unfold tripMid.sl.v130_r0
    exact load_t (off17_eq k) _ _ _
  have hp : tripMid.sl.dma4 c XA TA v0 v2 k hk2 hk3 hk4 fo = outBlk c XA TA v0 v2 (Ring.bk 40 k.val) := by
    unfold tripMid.sl.dma4 tripMid.sl.Hos_w1 tripMid.sl.cst_r0
    refine (store_o (off18_eq k) _ _ _).trans ?_
    rw [pay2_eq, hx, ht]
  isplitl [HO]; · iexists _; iexact HO
  isplitl [HFx_src]; · iexact HFx_src
  isplitl [HFt_src]; · iexact HFt_src
  isplitl [HFx HFx_dst]
  · isplitl [HFx_dst]; · iexists _; iexact HFx_dst
    iexact HFx
  isplitl [HFt HFt_dst]
  · isplitl [HFt_dst]; · iexists _; iexact HFt_dst
    iexact HFt
  isplitl [HFo HFo_src]
  · isplitl [HFo_src]; · iexists _; iexact HFo_src
    iexact HFo
  isplitl [Hoc]
  · iexists (tripMid.sl.Hos_w1 c XA TA v0 v2 k hk2 hk3 hk4 fo)
    irw [← delivered c XA TA v0 v2 Y (Ring.bk 40 k.val) _ hp]
    iexact Hoc
  isplitl [Hxc]; · iexists _; iexact Hxc
  isplitl [Htc]; · iexists _; iexact Htc
  iexact HFo_dst

set_option backward.proofsInPublic true in
set_option maxHeartbeats 1000000 in
/-- The first trip. -/
theorem tripFirst (k : Fin k0_t1_loop.trips) (h0 : k.val = 0) (Y : Buf (Elt F) (oM.view.loc (c : Thread nD τ))) :
    iprop(owing (F := F) c ∗ xhome c XA (Ring.bk 40 (k.val + 1)) ∗ thome c TA (Ring.bk 40 (k.val + 1)) ∗ ohome (F := F) c Y (Ring.bk 40 k.val)
      ∗ xfly c XA (Ring.sl 2 k.val) (Ring.bk 40 k.val) ∗ tfly c TA (Ring.sl 2 k.val) (Ring.bk 40 k.val)
      ∗ xidle (F := F) c (Ring.sl 2 (k.val + 1)) ∗ tidle (F := F) c (Ring.sl 2 (k.val + 1)) ∗ oidle (F := F) c (Ring.sl 2 k.val) ∗ oidle (F := F) c (Ring.sl 2 (k.val + 1)))
    ⊢ wp frame (wpE (defs₀ (F := F)) 𝒱₀ (c : Thread nD τ) none) Set.univ (tripG i arg3 harg3 arg4 harg4 v0 v2 k)
        (fun acc => iprop(⌜acc = carried (k.val + 1)⌝ ∗ owing (F := F) c ∗ xhome c XA (Ring.bk 40 k.val) ∗ thome c TA (Ring.bk 40 k.val)
          ∗ xidle (F := F) c (Ring.sl 2 k.val) ∗ tidle (F := F) c (Ring.sl 2 k.val) ∗ oidle (F := F) c (Ring.sl 2 (k.val + 1))
          ∗ ofly c (outArr c XA TA v0 v2) (Ring.sl 2 k.val) (Ring.bk 40 k.val)
          ∗ xfly c XA (Ring.sl 2 (k.val + 1)) (Ring.bk 40 (k.val + 1)) ∗ tfly c TA (Ring.sl 2 (k.val + 1)) (Ring.bk 40 (k.val + 1)))) := by
  have hC1 := (cond1_fin k).mpr (by omega)
  have hC2 := (cond2_fin k).mpr (by omega)
  have hC3 := cond3_fin k
  have hC4 := cond4_fin k
  have hC8 := cond8_fin k
  have hC11 := mt (cond11_fin k).mp (by omega)
  have hk1 := chk1_fin k
  have hk2 := chk2_fin k
  have hk3 := chk3_fin k
  have hk4 := chk4_fin k
  unfold owing xfly tfly xidle tidle oidle ofly
  have h39 : k.val < 39 := by omega
  iintro ⟨⟨%W, HO⟩, Hx, Ht, Ho, ⟨%fx, HFx⟩, ⟨%ft, HFt⟩, ⟨⟨%fx1, Hxs⟩, Hxc⟩, ⟨⟨%ft1, Hts⟩, Htc⟩, ⟨⟨%fo, Hos⟩, Hoc⟩, HFo⟩
  dsimp only [tripG]
  sl_unfold [k0_t1_body]
  sl_exec
  sl_step
  have w1 : ∀ k : Fin k0_t1_loop.trips, k.val = 0 → tripFirst.sl.v89_r0 k = wNext (k.val + 1) := by decide +kernel
  have w2 : ∀ k : Fin k0_t1_loop.trips, k.val = 0 → tripFirst.sl.v161_r0 k = wd (k.val + 1) := by decide +kernel
  have w3 : ∀ k : Fin k0_t1_loop.trips, k.val = 0 → tripFirst.sl.v181_r0 k = wPrev (k.val + 1) := by decide +kernel
  have w4 : ∀ k : Fin k0_t1_loop.trips, k.val = 0 → tripFirst.sl.v73_r0 k = wBlk (k.val + 1) := by decide +kernel
  isplitr
  · ipureintro
    rw [w1 k h0, w2 k h0, w3 k h0, w4 k h0]
  have hx : tripFirst.sl.r c XA k hk2 = xpay c XA (Ring.bk 40 k.val) := by
    unfold tripFirst.sl.r tripFirst.sl.v126_r0 k0_pay1
    exact load_x (off16_eq k) _ _ _
  have ht : shapeCast S1x1x2500 (tripFirst.sl.v130_r0 c TA k hk3) shapeCasts_S1x1x1x2500_S1x1x2500 = tpay c TA (Ring.bk 40 k.val) := by
    unfold tripFirst.sl.v130_r0
    exact load_t (off17_eq k) _ _ _
  have hp : tripFirst.sl.dma4 c XA TA v0 v2 k hk2 hk3 hk4 fo = outBlk c XA TA v0 v2 (Ring.bk 40 k.val) := by
    unfold tripFirst.sl.dma4 tripFirst.sl.Hos_w1 tripFirst.sl.cst_r0
    refine (store_o (off18_eq k) _ _ _).trans ?_
    rw [pay2_eq, hx, ht]
  isplitl [HO]; · iexists _; iexact HO
  isplitl [HFx_src]; · iexact HFx_src
  isplitl [HFt_src]; · iexact HFt_src
  isplitl [HFx HFx_dst]
  · isplitl [HFx_dst]; · iexists _; iexact HFx_dst
    iexact HFx
  isplitl [HFt HFt_dst]
  · isplitl [HFt_dst]; · iexists _; iexact HFt_dst
    iexact HFt
  isplitl [HFo]; · iexact HFo
  isplitl [Hoc]
  · iexists (tripFirst.sl.Hos_w1 c XA TA v0 v2 k hk2 hk3 hk4 fo)
    irw [← delivered c XA TA v0 v2 Y (Ring.bk 40 k.val) _ hp]
    iexact Hoc
  isplitl [Hxc]; · iexists _; iexact Hxc
  iexists _; iexact Htc

set_option backward.proofsInPublic true in
set_option maxHeartbeats 1000000 in
/-- The last trip. -/
theorem tripLast (k : Fin k0_t1_loop.trips) (h39 : k.val = 39) (Y : Buf (Elt F) (oM.view.loc (c : Thread nD τ))) :
    iprop(owing (F := F) c ∗ ohome (F := F) c Y (Ring.bk 40 k.val)
      ∗ xfly c XA (Ring.sl 2 k.val) (Ring.bk 40 k.val) ∗ tfly c TA (Ring.sl 2 k.val) (Ring.bk 40 k.val)
      ∗ xidle (F := F) c (Ring.sl 2 (k.val + 1)) ∗ tidle (F := F) c (Ring.sl 2 (k.val + 1)) ∗ oidle (F := F) c (Ring.sl 2 k.val) ∗ ofly c (outArr c XA TA v0 v2) (Ring.sl 2 (k.val + 1)) (Ring.bk 40 (k.val - 1)))
    ⊢ wp frame (wpE (defs₀ (F := F)) 𝒱₀ (c : Thread nD τ) none) Set.univ (tripG i arg3 harg3 arg4 harg4 v0 v2 k)
        (fun acc => iprop(⌜acc = carried (k.val + 1)⌝ ∗ owing (F := F) c ∗ xhome c XA (Ring.bk 40 k.val) ∗ thome c TA (Ring.bk 40 k.val)
          ∗ xidle (F := F) c (Ring.sl 2 k.val) ∗ tidle (F := F) c (Ring.sl 2 k.val) ∗ oidle (F := F) c (Ring.sl 2 (k.val + 1))
          ∗ ofly c (outArr c XA TA v0 v2) (Ring.sl 2 k.val) (Ring.bk 40 k.val)
          ∗ xidle (F := F) c (Ring.sl 2 (k.val + 1)) ∗ tidle (F := F) c (Ring.sl 2 (k.val + 1)) ∗ ohome c (outArr c XA TA v0 v2) (Ring.bk 40 (k.val - 1)))) := by
  have hC1 := mt (cond1_fin k).mp (by omega)
  have hC2 := mt (cond2_fin k).mp (by omega)
  have hC3 := cond3_fin k
  have hC4 := cond4_fin k
  have hC8 := cond8_fin k
  have hC11 := (cond11_fin k).mpr (by omega)
  have hk1 := chk1_fin k
  have hk2 := chk2_fin k
  have hk3 := chk3_fin k
  have hk4 := chk4_fin k
  unfold owing xfly tfly xidle tidle oidle ofly
  have h0 : 0 < k.val := by omega
  iintro ⟨⟨%W, HO⟩, Ho, ⟨%fx, HFx⟩, ⟨%ft, HFt⟩, Hxi, Hti, ⟨⟨%fo, Hos⟩, Hoc⟩, ⟨%go, HFo⟩⟩
  dsimp only [tripG]
  sl_unfold [k0_t1_body]
  sl_exec
  sl_step
  have w1 : ∀ k : Fin k0_t1_loop.trips, k.val = 39 → tripLast.sl.v89_r0 k = wNext (k.val + 1) := by decide +kernel
  have w2 : ∀ k : Fin k0_t1_loop.trips, k.val = 39 → tripLast.sl.v161_r0 k = wd (k.val + 1) := by decide +kernel
  have w3 : ∀ k : Fin k0_t1_loop.trips, k.val = 39 → tripLast.sl.v181_r0 k = wPrev (k.val + 1) := by decide +kernel
  have w4 : ∀ k : Fin k0_t1_loop.trips, k.val = 39 → tripLast.sl.v73_r0 k = wBlk (k.val + 1) := by decide +kernel
  isplitr
  · ipureintro
    rw [w1 k h39, w2 k h39, w3 k h39, w4 k h39]
  have hx : tripLast.sl.r c XA k hk2 = xpay c XA (Ring.bk 40 k.val) := by
    unfold tripLast.sl.r tripLast.sl.v126_r0 k0_pay1
    exact load_x (off16_eq k) _ _ _
  have ht : shapeCast S1x1x2500 (tripLast.sl.v130_r0 c TA k hk3) shapeCasts_S1x1x1x2500_S1x1x2500 = tpay c TA (Ring.bk 40 k.val) := by
    unfold tripLast.sl.v130_r0
    exact load_t (off17_eq k) _ _ _
  have hp : tripLast.sl.dma4 c XA TA v0 v2 k hk2 hk3 hk4 fo = outBlk c XA TA v0 v2 (Ring.bk 40 k.val) := by
    unfold tripLast.sl.dma4 tripLast.sl.Hos_w1 tripLast.sl.cst_r0
    refine (store_o (off18_eq k) _ _ _).trans ?_
    rw [pay2_eq, hx, ht]
  isplitl [HO]; · iexists _; iexact HO
  isplitl [HFx_src]; · iexact HFx_src
  isplitl [HFt_src]; · iexact HFt_src
  isplitl [HFx HFx_dst]
  · isplitl [HFx_dst]; · iexists _; iexact HFx_dst
    iexact HFx
  isplitl [HFt HFt_dst]
  · isplitl [HFt_dst]; · iexists _; iexact HFt_dst
    iexact HFt
  isplitl [HFo HFo_src]
  · isplitl [HFo_src]; · iexists _; iexact HFo_src
    iexact HFo
  isplitl [Hoc]
  · iexists (tripLast.sl.Hos_w1 c XA TA v0 v2 k hk2 hk3 hk4 fo)
    irw [← delivered c XA TA v0 v2 Y (Ring.bk 40 k.val) _ hp]
    iexact Hoc
  isplitl [Hxi]; · iexact Hxi
  isplitl [Hti]; · iexact Hti
  iexact HFo_dst

end Cert.Proof.KernelIdeal

end
-- ==== Proof.KernelIdeal.Loop.lean ====
/-
  The loop by its invariant. Before trip `k`: the blocks before `k` and after `k` of the two inputs are at home, block `k`
  is on its way in; of the result the blocks before `k - 1` are done, block `k - 1` is on its way out, and those from `k`
  on are as they were.
-/
module

public import proofs.«01_k».proof.Proof.KernelIdeal.Trip

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ### Runs of blocks -/

/-- The blocks from `lo` to before `hi`, each at `P`. -/
abbrev run (P : Fin 40 → sProp 𝕄) (lo hi : ℕ) : sProp 𝕄 := bigSep (Ring.rangeSet 40 lo hi) P

omit [FloatOps F] in
theorem run_take (P : Fin 40 → sProp 𝕄) {lo : ℕ} (h : lo < 40) : run P lo 40 = iprop(P (Ring.bk 40 lo) ∗ run P (lo + 1) 40) := by
  have e : (⟨lo, h⟩ : Fin 40) = Ring.bk 40 lo := Fin.ext (bk_val h).symm
  rw [run, Ring.bigSep_rangeSet_head h h, e]
omit [FloatOps F] in
theorem run_put (P : Fin 40 → sProp 𝕄) {n : ℕ} (h : n < 40) : run P 0 (n + 1) = iprop(P (Ring.bk 40 n) ∗ run P 0 n) := by
  have e : (⟨n + 1 - 1, by omega⟩ : Fin 40) = Ring.bk 40 n := Fin.ext (by rw [bk_val h]; rfl)
  rw [run, Ring.bigSep_rangeSet_last (Nat.succ_pos n) (by omega), e]; rfl
omit [FloatOps F] in
theorem run_end (P : Fin 40 → sProp 𝕄) {a b : ℕ} (ha : 40 ≤ a) (hb : 40 ≤ b) : run P a 40 = run P b 40 := by
  rw [run, run, Ring.rangeSet_empty ha, Ring.rangeSet_empty hb]
omit [FloatOps F] in
theorem run_nil (P Q : Fin 40 → sProp 𝕄) (a b : ℕ) : run P a a = run Q b b := by
  rw [run, run, Ring.bigSep_rangeSet_empty le_rfl, Ring.bigSep_rangeSet_empty le_rfl]

/-! ### The invariant -/

section Inv
variable (c : Dev nD) (XA : Buf (Elt F) (xM.view.loc (c : Thread nD τ))) (TA : Buf (Elt F) (tM.view.loc (c : Thread nD τ)))
  (Y G : Buf (Elt F) (oM.view.loc (c : Thread nD τ)))

/-- The incoming side: block `k` on its way into slot `k % 2` while there is one, the other slot at rest. -/
def inSide (k : ℕ) : sProp 𝕄 :=
  if k < 40 then iprop(xfly c XA (Ring.sl 2 k) (Ring.bk 40 k) ∗ tfly c TA (Ring.sl 2 k) (Ring.bk 40 k) ∗ xidle (F := F) c (Ring.sl 2 (k + 1)) ∗ tidle (F := F) c (Ring.sl 2 (k + 1)))
  else iprop(xidle (F := F) c (Ring.sl 2 k) ∗ tidle (F := F) c (Ring.sl 2 k) ∗ xidle (F := F) c (Ring.sl 2 (k + 1)) ∗ tidle (F := F) c (Ring.sl 2 (k + 1)))
/-- The outgoing side: the block before `k`, if there is one, on its way out of the other slot. -/
def outSide (k : ℕ) : sProp 𝕄 :=
  if 0 < k then ofly c G (Ring.sl 2 (k + 1)) (Ring.bk 40 (k - 1)) else oidle (F := F) c (Ring.sl 2 (k + 1))

/-- What is held before trip `k`. -/
def res (k : ℕ) : sProp 𝕄 :=
  iprop(owing (F := F) c ∗ run (xhome c XA) 0 k ∗ run (xhome c XA) (k + 1) 40 ∗ run (thome c TA) 0 k ∗ run (thome c TA) (k + 1) 40
    ∗ run (ohome c G) 0 (k - 1) ∗ run (ohome c Y) k 40 ∗ inSide c XA TA k ∗ oidle (F := F) c (Ring.sl 2 k) ∗ outSide c G k)
end Inv

section Step
variable (c : Dev nD) (XA : Buf (Elt F) (xM.view.loc (c : Thread nD τ))) (TA : Buf (Elt F) (tM.view.loc (c : Thread nD τ)))
  (Y : Buf (Elt F) (oM.view.loc (c : Thread nD τ)))
variable (i : grid0.Coords)
  (arg3 : Memref sig .tc .vmem S128x128 .f32) (harg3 : arg3.IsWhole) (arg4 : Memref sig .tc .vmem S1x128 .f32) (harg4 : arg4.IsWhole)
  (v0 : Vec F S128x128 .f32) (v2 : FVec F S1x128 .f32)

theorem stepMid (k : Fin k0_t1_loop.trips) (h0 : 0 < k.val) (h39 : k.val < 39) :
    res c XA TA Y (outArr c XA TA v0 v2) k.val
      ⊢ wp frame (wpE (defs₀ (F := F)) 𝒱₀ (c : Thread nD τ) none) Set.univ (tripG i arg3 harg3 arg4 harg4 v0 v2 k)
        (fun acc => iprop(⌜acc = carried (k.val + 1)⌝ ∗ res c XA TA Y (outArr c XA TA v0 v2) (k.val + 1))) := by
  have hk : k.val - 1 + 1 = k.val := by omega
  unfold res inSide outSide
  rw [if_pos (show k.val < 40 by omega), if_pos h0, if_pos (show k.val + 1 < 40 by omega), if_pos (Nat.succ_pos _),
    run_take (xhome c XA) (show k.val + 1 < 40 by omega), run_take (thome c TA) (show k.val + 1 < 40 by omega),
    run_take (ohome c Y) (show k.val < 40 by omega), run_put (xhome c XA) (show k.val < 40 by omega),
    run_put (thome c TA) (show k.val < 40 by omega), Nat.add_sub_cancel, Ring.sl_add 2 k.val]
  have hput := run_put (ohome c (outArr c XA TA v0 v2)) (show k.val - 1 < 40 by omega)
  rw [hk] at hput
  rw [hput]
  iintro ⟨HO, HXl, ⟨Hx, HXh⟩, HTl, ⟨Ht, HTh⟩, HOl, ⟨Ho, HOh⟩, ⟨Hxf, Htf, Hxi, Hti⟩, Hoi, Hof⟩
  iapply (wp_wand_r Idealize.ShloMosaic.frame (wpE (defs₀ (F := F)) 𝒱₀ (c : Thread nD τ) none) Set.univ)
  isplitl [HO Hx Ht Ho Hxf Htf Hxi Hti Hoi Hof]
  · iapply (tripMid c XA TA i arg3 harg3 arg4 harg4 v0 v2 k h0 h39 Y)
    isplitl [HO]; · iexact HO
    isplitl [Hx]; · iexact Hx
    isplitl [Ht]; · iexact Ht
    isplitl [Ho]; · iexact Ho
    isplitl [Hxf]; · iexact Hxf
    isplitl [Htf]; · iexact Htf
    isplitl [Hxi]; · iexact Hxi
    isplitl [Hti]; · iexact Hti
    isplitl [Hoi]; · iexact Hoi
    iexact Hof
  · iintro %acc ⟨%e, HO, Hx, Ht, Hxi, Hti, Hoi, Hof, Hxf, Htf, Ho⟩
    isplitr; · ipureintro; exact e
    isplitl [HO]; · iexact HO
    isplitl [HXl Hx]
    · isplitl [Hx]; · iexact Hx
      iexact HXl
    isplitl [HXh]; · iexact HXh
    isplitl [HTl Ht]
    · isplitl [Ht]; · iexact Ht
      iexact HTl
    isplitl [HTh]; · iexact HTh
    isplitl [HOl Ho]
    · isplitl [Ho]; · iexact Ho
      iexact HOl
    isplitl [HOh]; · iexact HOh
    isplitl [Hxi Hti Hxf Htf]
    · isplitl [Hxf]; · iexact Hxf
      isplitl [Htf]; · iexact Htf
      isplitl [Hxi]; · iexact Hxi
      iexact Hti
    isplitl [Hoi]; · iexact Hoi
    iexact Hof

theorem stepFirst (k : Fin k0_t1_loop.trips) (h0 : k.val = 0) :
    res c XA TA Y (outArr c XA TA v0 v2) k.val
      ⊢ wp frame (wpE (defs₀ (F := F)) 𝒱₀ (c : Thread nD τ) none) Set.univ (tripG i arg3 harg3 arg4 harg4 v0 v2 k)
        (fun acc => iprop(⌜acc = carried (k.val + 1)⌝ ∗ res c XA TA Y (outArr c XA TA v0 v2) (k.val + 1))) := by
  have h1 : k.val - 1 = k.val := by omega
  unfold res inSide outSide
  rw [if_pos (show k.val < 40 by omega), if_neg (show ¬ 0 < k.val by omega), if_pos (show k.val + 1 < 40 by omega), if_pos (Nat.succ_pos _),
    run_take (xhome c XA) (show k.val + 1 < 40 by omega), run_take (thome c TA) (show k.val + 1 < 40 by omega),
    run_take (ohome c Y) (show k.val < 40 by omega), run_put (xhome c XA) (show k.val < 40 by omega),
    run_put (thome c TA) (show k.val < 40 by omega), Nat.add_sub_cancel, Ring.sl_add 2 k.val, h1]
  iintro ⟨HO, HXl, ⟨Hx, HXh⟩, HTl, ⟨Ht, HTh⟩, HOl, ⟨Ho, HOh⟩, ⟨Hxf, Htf, Hxi, Hti⟩, Hoi, Hof⟩
  iapply (wp_wand_r Idealize.ShloMosaic.frame (wpE (defs₀ (F := F)) 𝒱₀ (c : Thread nD τ) none) Set.univ)
  isplitl [HO Hx Ht Ho Hxf Htf Hxi Hti Hoi Hof]
  · iapply (tripFirst c XA TA i arg3 harg3 arg4 harg4 v0 v2 k h0 Y)
    isplitl [HO]; · iexact HO
    isplitl [Hx]; · iexact Hx
    isplitl [Ht]; · iexact Ht
    isplitl [Ho]; · iexact Ho
    isplitl [Hxf]; · iexact Hxf
    isplitl [Htf]; · iexact Htf
    isplitl [Hxi]; · iexact Hxi
    isplitl [Hti]; · iexact Hti
    isplitl [Hoi]; · iexact Hoi
    iexact Hof
  · iintro %acc ⟨%e, HO, Hx, Ht, Hxi, Hti, Hoi, Hof, Hxf, Htf⟩
    isplitr; · ipureintro; exact e
    isplitl [HO]; · iexact HO
    isplitl [HXl Hx]
    · isplitl [Hx]; · iexact Hx
      iexact HXl
    isplitl [HXh]; · iexact HXh
    isplitl [HTl Ht]
    · isplitl [Ht]; · iexact Ht
      iexact HTl
    isplitl [HTh]; · iexact HTh
    isplitl [HOl]; · iexact HOl
    isplitl [HOh]; · iexact HOh
    isplitl [Hxi Hti Hxf Htf]
    · isplitl [Hxf]; · iexact Hxf
      isplitl [Htf]; · iexact Htf
      isplitl [Hxi]; · iexact Hxi
      iexact Hti
    isplitl [Hoi]; · iexact Hoi
    iexact Hof

theorem stepLast (k : Fin k0_t1_loop.trips) (h39 : k.val = 39) :
    res c XA TA Y (outArr c XA TA v0 v2) k.val
      ⊢ wp frame (wpE (defs₀ (F := F)) 𝒱₀ (c : Thread nD τ) none) Set.univ (tripG i arg3 harg3 arg4 harg4 v0 v2 k)
        (fun acc => iprop(⌜acc = carried (k.val + 1)⌝ ∗ res c XA TA Y (outArr c XA TA v0 v2) (k.val + 1))) := by
  have hk : k.val - 1 + 1 = k.val := by omega
  unfold res inSide outSide
  rw [if_pos (show k.val < 40 by omega), if_pos (show 0 < k.val by omega), if_neg (show ¬ k.val + 1 < 40 by omega), if_pos (Nat.succ_pos _),
    run_end (xhome c XA) (show 40 ≤ k.val + 1 by omega) (show 40 ≤ k.val + 1 + 1 by omega),
    run_end (thome c TA) (show 40 ≤ k.val + 1 by omega) (show 40 ≤ k.val + 1 + 1 by omega),
    run_take (ohome c Y) (show k.val < 40 by omega), run_put (xhome c XA) (show k.val < 40 by omega),
    run_put (thome c TA) (show k.val < 40 by omega), Nat.add_sub_cancel, Ring.sl_add 2 k.val]
  have hput := run_put (ohome c (outArr c XA TA v0 v2)) (show k.val - 1 < 40 by omega)
  rw [hk] at hput
  rw [hput]
  iintro ⟨HO, HXl, HXh, HTl, HTh, HOl, ⟨Ho, HOh⟩, ⟨Hxf, Htf, Hxi, Hti⟩, Hoi, Hof⟩
  iapply (wp_wand_r Idealize.ShloMosaic.frame (wpE (defs₀ (F := F)) 𝒱₀ (c : Thread nD τ) none) Set.univ)
  isplitl [HO Ho Hxf Htf Hxi Hti Hoi Hof]
  · iapply (tripLast c XA TA i arg3 harg3 arg4 harg4 v0 v2 k h39 Y)
    isplitl [HO]; · iexact HO
    isplitl [Ho]; · iexact Ho
    isplitl [Hxf]; · iexact Hxf
    isplitl [Htf]; · iexact Htf
    isplitl [Hxi]; · iexact Hxi
    isplitl [Hti]; · iexact Hti
    isplitl [Hoi]; · iexact Hoi
    iexact Hof
  · iintro %acc ⟨%e, HO, Hx, Ht, Hxi, Hti, Hoi, Hof, Hxj, Htj, Ho⟩
    isplitr; · ipureintro; exact e
    isplitl [HO]; · iexact HO
    isplitl [HXl Hx]
    · isplitl [Hx]; · iexact Hx
      iexact HXl
    isplitl [HXh]; · iexact HXh
    isplitl [HTl Ht]
    · isplitl [Ht]; · iexact Ht
      iexact HTl
    isplitl [HTh]; · iexact HTh
    isplitl [HOl Ho]
    · isplitl [Ho]; · iexact Ho
      iexact HOl
    isplitl [HOh]; · iexact HOh
    isplitl [Hxi Hti Hxj Htj]
    · isplitl [Hxj]; · iexact Hxj
      isplitl [Htj]; · iexact Htj
      isplitl [Hxi]; · iexact Hxi
      iexact Hti
    isplitl [Hoi]; · iexact Hoi
    iexact Hof

attribute [irreducible] res

set_option warn.classDefReducibility false in
/-- The loop's invariant: the carried words, and what is held. -/
@[sl_loop] def loopInv (init : BitVec 32 × BitVec 32 × BitVec 32 × BitVec 32 × BitVec 32 × BitVec 32 × BitVec 32) :
    LoopInvTy_k0_t1 (F := F) Unit ℕ (UU nD τ) ℕ 𝒱₀ c none Set.univ i xM (Memref.isWhole_whole _) tM (Memref.isWhole_whole _) arg3 harg3 arg4 harg4 oM (Memref.isWhole_whole _)
      xB (Memref.isWhole_whole _) cc0_scoped1 tB (Memref.isWhole_whole _) cc0_scoped3 oB (Memref.isWhole_whole _) cc0_scoped5 v0 v2 1#32 init where
  inv k acc := iprop(⌜acc = carried k⌝ ∗ res c XA TA Y (outArr c XA TA v0 v2) k)
  step k acc := by
    iintro ⟨%e, H⟩
    subst e
    have hk := lt40 k
    rcases Nat.eq_zero_or_pos k.val with h0 | h0
    · iapply (stepFirst c XA TA Y i arg3 harg3 arg4 harg4 v0 v2 k h0); iexact H
    · rcases Nat.lt_or_ge k.val 39 with h | h
      · iapply (stepMid c XA TA Y i arg3 harg3 arg4 harg4 v0 v2 k h0 h); iexact H
      · iapply (stepLast c XA TA Y i arg3 harg3 arg4 harg4 v0 v2 k (by omega)); iexact H

end Step

end Cert.Proof.KernelIdeal

end
-- ==== Proof.KernelIdeal.Body.lean ====
/-
  The kernel's body: the weights and the bias loaded, block 0 sent for, the loop by its invariant, the last block waited
  for. It leaves the two inputs as they were and the result at `outArr`.
-/
module

public import proofs.«01_k».proof.Proof.KernelIdeal.Loop

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (xM.view.loc (c : Thread nD τ))) (TA : Buf (Elt F) (tM.view.loc (c : Thread nD τ)))
  (Y : Buf (Elt F) (oM.view.loc (c : Thread nD τ)))
variable (i : grid0.Coords)
  (arg3 : Memref sig .tc .vmem S128x128 .f32) (harg3 : arg3.IsWhole) (arg4 : Memref sig .tc .vmem S1x128 .f32) (harg4 : arg4.IsWhole)

/-- The body at the buffers the call hands it. -/
abbrev bodyG : Prog (TpuEff nD τ sig (Elt F) Λ₀ .tc) PUnit :=
  cc0__outer i xM (Memref.isWhole_whole _) tM (Memref.isWhole_whole _) arg3 harg3 arg4 harg4 oM (Memref.isWhole_whole _)
    xB (Memref.isWhole_whole _) cc0_scoped1 tB (Memref.isWhole_whole _) cc0_scoped3 oB (Memref.isWhole_whole _) cc0_scoped5

abbrev wP (g : Buf (Elt F) (arg3.view.loc (c : Thread nD τ))) : sProp 𝕄 := arg3.view.loc (c : Thread nD τ) ↦[arg3.view.set]{fullShare} g
abbrev bP (g : Buf (Elt F) (arg4.view.loc (c : Thread nD τ))) : sProp 𝕄 := arg4.view.loc (c : Thread nD τ) ↦[arg4.view.set]{fullShare} g

/-- The slots and cells at rest. -/
abbrev idleAll : sProp 𝕄 :=
  iprop(xidle (F := F) c 0 ∗ xidle (F := F) c 1 ∗ tidle (F := F) c 0 ∗ tidle (F := F) c 1 ∗ oidle (F := F) c 0 ∗ oidle (F := F) c 1)

theorem sl_0 : Ring.sl 2 0 = 0 := Fin.ext (by rfl)
theorem sl_1 : Ring.sl 2 (0 + 1) = 1 := Fin.ext (by rfl)
theorem bk_0 : Ring.bk 40 0 = 0 := Fin.ext (by rfl)

/-- What is held once block 0 is sent for is what is held before trip 0. -/
theorem res_zero (G : Buf (Elt F) (oM.view.loc (c : Thread nD τ))) :
    iprop(owing (F := F) c ∗ run (xhome c XA) (0 + 1) 40 ∗ run (thome c TA) (0 + 1) 40 ∗ run (ohome c Y) 0 40
      ∗ (xfly c XA 0 0 ∗ tfly c TA 0 0 ∗ xidle (F := F) c 1 ∗ tidle (F := F) c 1) ∗ oidle (F := F) c 0 ∗ oidle (F := F) c 1)
    ⊢ res c XA TA Y G 0 := by
  unfold res inSide outSide
  rw [if_pos (show 0 < 40 by decide), if_neg (show ¬ 0 < 0 by decide), sl_0, sl_1, bk_0]
  have e : ∀ (P : Fin 40 → sProp 𝕄) (R : sProp 𝕄), iprop(run P 0 0 ∗ R) = R := fun P R => by
    rw [run, Ring.bigSep_rangeSet_empty le_rfl]; exact equiv_iff.mp BI.emp_sep
  rw [e (xhome c XA), e (thome c TA), show 0 - 1 = 0 from rfl, e (ohome c G)]

/-- What is held after the last trip: everything at home but the last block of the result. -/
theorem res_end (G : Buf (Elt F) (oM.view.loc (c : Thread nD τ))) :
    res c XA TA Y G k0_t1_loop.trips
      ⊢ iprop(owing (F := F) c ∗ run (xhome c XA) 0 40 ∗ run (thome c TA) 0 40 ∗ run (ohome c G) 0 39
        ∗ (xidle (F := F) c 0 ∗ tidle (F := F) c 0 ∗ xidle (F := F) c 1 ∗ tidle (F := F) c 1) ∗ oidle (F := F) c 0 ∗ ofly c G 1 39) := by
  have s0 : Ring.sl 2 40 = 0 := Fin.ext (by rfl)
  have s1 : Ring.sl 2 (40 + 1) = 1 := Fin.ext (by rfl)
  have b39 : Ring.bk 40 39 = 39 := Fin.ext (by rfl)
  rw [trips_eq]
  unfold res inSide outSide
  have e : ∀ (P : Fin 40 → sProp 𝕄) (a : ℕ) (R : sProp 𝕄), 40 ≤ a → iprop(run P a 40 ∗ R) = R := fun P a R h => by
    rw [run, Ring.bigSep_rangeSet_empty h]; exact equiv_iff.mp BI.emp_sep
  rw [if_neg (show ¬ 40 < 40 by decide), if_pos (show 0 < 40 by decide), s0, s1, e (xhome c XA) (40 + 1) _ (by decide),
    e (thome c TA) (40 + 1) _ (by decide), e (ohome c Y) 40 _ (by decide), show 40 - 1 = 39 from rfl, b39]

/-- All forty blocks of the result. -/
theorem out_all (G : Buf (Elt F) (oM.view.loc (c : Thread nD τ))) :
    iprop(ohome c G 39 ∗ run (ohome c G) 0 39) ⊢ run (ohome c G) 0 40 := by
  have b39 : Ring.bk 40 39 = 39 := Fin.ext (by rfl)
  rw [run_put (ohome c G) (show 39 < 40 by decide), b39]

/-- The weights and the bias as the body reads them. -/
abbrev wOf (g3 : Buf (Elt F) (arg3.view.loc (c : Thread nD τ))) : Vec F S128x128 .f32 :=
  arg3.view.readAt (Elt F) (Rect.unit (s := S128x128) ![0, 0] S128x128.size inb_S128x128_S128x128_0_0).toLoadRect g3
abbrev bOf (g4 : Buf (Elt F) (arg4.view.loc (c : Thread nD τ))) : FVec F S1x128 .f32 :=
  k0_pay3 (arg4.view.readAt (Elt F) (Rect.unit (s := S1x128) ![0, 0] S1x128.size inb_S1x128_S1x128_0_0).toLoadRect g4)

/-- What the body leaves. -/
def bodyPost (g3 : Buf (Elt F) (arg3.view.loc (c : Thread nD τ))) (g4 : Buf (Elt F) (arg4.view.loc (c : Thread nD τ))) : sProp 𝕄 :=
  iprop(wP c arg3 g3 ∗ bP c arg4 g4 ∗ owing (F := F) c ∗ run (xhome c XA) 0 40 ∗ run (thome c TA) 0 40
          ∗ run (ohome c (outArr c XA TA (wOf c arg3 g3) (bOf c arg4 g4))) 0 40 ∗ idleAll (F := F) c)

set_option maxRecDepth 8192 in
theorem bodyRun (g3 : Buf (Elt F) (arg3.view.loc (c : Thread nD τ))) (g4 : Buf (Elt F) (arg4.view.loc (c : Thread nD τ))) (Q : PUnit → sProp 𝕄) :
    iprop((wP c arg3 g3 ∗ bP c arg4 g4 ∗ owing (F := F) c ∗ run (xhome c XA) 0 40 ∗ run (thome c TA) 0 40 ∗ run (ohome c Y) 0 40 ∗ idleAll (F := F) c)
      ∗ (bodyPost c XA TA arg3 arg4 g3 g4 -∗ Q ⟨⟩))
      ⊢ wp frame (wpE (defs₀ (F := F)) 𝒱₀ (c : Thread nD τ) none) Set.univ (bodyG i arg3 harg3 arg4 harg4) Q := by
  rw [run_take (xhome c XA) (show 0 < 40 by omega), run_take (thome c TA) (show 0 < 40 by omega), bk_0]
  unfold owing idleAll xidle tidle oidle
  iintro ⟨⟨HW, HB, ⟨%W, HO⟩, ⟨Hx, HXh⟩, ⟨Ht, HTh⟩, HOh, ⟨⟨%fx0, Hxs0⟩, Hxc0⟩, ⟨⟨%fx1, Hxs1⟩, Hxc1⟩, ⟨⟨%ft0, Hts0⟩, Htc0⟩, ⟨⟨%ft1, Hts1⟩, Htc1⟩,
    ⟨⟨%fo0, Hos0⟩, Hoc0⟩, ⟨⟨%fo1, Hos1⟩, Hoc1⟩⟩, Hk⟩
  sl_exec
  ihave HR := (res_zero c XA TA Y (outArr c XA TA (bodyRun.sl.r c arg3 g3) (bodyRun.sl.v2 c arg4 g4)))
    $$ [HO HXh HTh HOh Hxc0 Htc0 Hxs1 Hxc1 Hts1 Htc1 Hos0 Hoc0 Hos1 Hoc1]
  · unfold owing xidle tidle oidle xfly tfly
    isplitl [HO]; · iexists _; iexact HO
    isplitl [HXh]; · iexact HXh
    isplitl [HTh]; · iexact HTh
    isplitl [HOh]; · iexact HOh
    isplitl [Hxc0 Htc0 Hxs1 Hxc1 Hts1 Htc1]
    · isplitl [Hxc0]; · iexists _; iexact Hxc0
      isplitl [Htc0]; · iexists _; iexact Htc0
      isplitl [Hxs1 Hxc1]
      · isplitl [Hxs1]; · iexists _; iexact Hxs1
        iexact Hxc1
      isplitl [Hts1]; · iexists _; iexact Hts1
      iexact Htc1
    isplitl [Hos0 Hoc0]
    · isplitl [Hos0]; · iexists _; iexact Hos0
      iexact Hoc0
    isplitl [Hos1]; · iexists _; iexact Hos1
    iexact Hoc1
  have hinit : ((1#32, 0#32, 1#32, 0#32, 0#32, 0#32, 0#32) : BitVec 32 × BitVec 32 × BitVec 32 × BitVec 32 × BitVec 32 × BitVec 32 × BitVec 32) = carried 0 := rfl
  sl_exec
  ihave HE := (res_end c XA TA Y (outArr c XA TA (bodyRun.sl.r c arg3 g3) (bodyRun.sl.v2 c arg4 g4))) $$ [HR]
  · iexact HR
  icases HE with ⟨HO, HX, HT, HG, ⟨Hx0, Ht0, Hx1, Ht1⟩, Ho0, Hof⟩
  unfold owing xidle tidle oidle ofly
  icases HO with ⟨%W', HO⟩
  icases Hof with ⟨%g, Hof⟩
  sl_exec
  sl_step
  iapply Hk
  unfold bodyPost idleAll owing xidle tidle oidle
  isplitl [HW]; · iexact HW
  isplitl [HB]; · iexact HB
  isplitl [HO]; · iexists _; iexact HO
  isplitl [HX]; · iexact HX
  isplitl [HT]; · iexact HT
  isplitl [HG Hof_dst]
  · iapply (out_all c (outArr c XA TA (wOf c arg3 g3) (bOf c arg4 g4)))
    isplitl [Hof_dst]; · iexact Hof_dst
    iexact HG
  isplitl [Hx0]; · iexact Hx0
  isplitl [Hx1]; · iexact Hx1
  isplitl [Ht0]; · iexact Ht0
  isplitl [Ht1]; · iexact Ht1
  isplitl [Ho0]; · iexact Ho0
  isplitl [Hof_src]; · iexists _; iexact Hof_src
  iexact Hof

end Cert.Proof.KernelIdeal

end
-- ==== Proof.KernelIdeal.Whole.lean ====
/-
  The arrays and the double buffers cut up and put together: an array whole is its forty blocks at home, a double buffer
  whole is its two slots.
-/
module

public import proofs.«01_k».proof.Proof.KernelIdeal.Body
public import Idealize.ShloMosaic.Lib.Pipeline.KitQuiescent

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ### Element sets -/

/-- The elements of block `b` of a row array, -/
abbrev rowSet (b : Fin 40) : Finset S100000x128.Idx := (Rect.unit (s := S100000x128) (rowOff b) S2500x128.size (rowOff_inb b)).set
/-- of the codes, -/
abbrev typeSet (b : Fin 40) : Finset S40x1x2500.Idx := (Rect.unit (s := S40x1x2500) (typeOff b) S1x1x2500.size (typeOff_inb b)).set
/-- of slot `s` of a row buffer, -/
abbrev slotSet (s : Fin 2) : Finset S2x2500x128.Idx := (Rect.unit (s := S2x2500x128) (slotOff s) S1x2500x128.size (slotOff_inb s)).set
/-- of the codes' buffer. -/
abbrev tslotSet (s : Fin 2) : Finset S2x1x1x2500.Idx := (Rect.unit (s := S2x1x1x2500) (tslotOff s) S1x1x1x2500.size (tslotOff_inb s)).set

theorem xblk_set (b : Fin 40) : (xblk b : Memref sig .tc .hbm _ _).view.set = rowSet b := View.set_slice_whole _ _
theorem oblk_set (b : Fin 40) : (oblk b : Memref sig .tc .hbm _ _).view.set = rowSet b := View.set_slice_whole _ _
theorem tblk_set (b : Fin 40) : (tblk b : Memref sig .tc .hbm _ _).view.set = typeSet b := View.set_slice_whole _ _
theorem xslot_set (s : Fin 2) : (xslot s : Memref sig .tc .vmem _ _).view.set = slotSet s := (View.set_reshape _ _).trans (View.set_slice_whole _ _)
theorem oslot_set (s : Fin 2) : (oslot s : Memref sig .tc .vmem _ _).view.set = slotSet s := (View.set_reshape _ _).trans (View.set_slice_whole _ _)
theorem tslot_set (s : Fin 2) : (tslot s : Memref sig .tc .vmem _ _).view.set = tslotSet s := (View.set_reshape _ _).trans (View.set_slice_whole _ _)

theorem mem_rowSet (b : Fin 40) (y : S100000x128.Idx) : y ∈ rowSet b ↔ (y 0).val / 2500 = b.val := by
  rw [Rect.mem_set_unit]
  have h1 : (y 1).val < 128 := (y 1).isLt
  constructor
  · intro H; have a0 : 2500 * b.val ≤ (y 0).val ∧ (y 0).val < 2500 * b.val + 2500 := H 0; omega
  · intro H i; fin_cases i
    · show 2500 * b.val ≤ (y 0).val ∧ (y 0).val < 2500 * b.val + 2500; omega
    · show 0 ≤ (y 1).val ∧ (y 1).val < 0 + 128; omega
theorem mem_typeSet (b : Fin 40) (y : S40x1x2500.Idx) : y ∈ typeSet b ↔ (y 0).val = b.val := by
  rw [Rect.mem_set_unit]
  have h1 : (y 1).val < 1 := (y 1).isLt
  have h2 : (y 2).val < 2500 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 1; omega
    · show 0 ≤ (y 2).val ∧ (y 2).val < 0 + 2500; omega
theorem mem_slotSet (s : Fin 2) (y : S2x2500x128.Idx) : y ∈ slotSet s ↔ (y 0).val = s.val := by
  rw [Rect.mem_set_unit]
  have h1 : (y 1).val < 2500 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2500; omega
    · show 0 ≤ (y 2).val ∧ (y 2).val < 0 + 128; omega
theorem mem_tslotSet (s : Fin 2) (y : S2x1x1x2500.Idx) : y ∈ tslotSet s ↔ (y 0).val = s.val := by
  rw [Rect.mem_set_unit]
  have h1 : (y 1).val < 1 := (y 1).isLt
  have h2 : (y 2).val < 1 := (y 2).isLt
  have h3 : (y 3).val < 2500 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 2500; omega

theorem rowSet_disjoint : ∀ b b' : Fin 40, b ≠ b' → Disjoint (rowSet b) (rowSet b') := by
  intro b b' hne; rw [Finset.disjoint_left]; intro y hy hy'; rw [mem_rowSet] at hy hy'; exact hne (Fin.ext (hy.symm.trans hy'))
theorem rowSet_cover : (Finset.univ : Finset (Fin 40)).biUnion rowSet = Finset.univ := by
  ext y; simp only [Finset.mem_biUnion, Finset.mem_univ, true_and, iff_true]
  have h0 : (y 0).val < 100000 := (y 0).isLt
  exact ⟨⟨(y 0).val / 2500, by omega⟩, by rw [mem_rowSet]⟩
theorem typeSet_disjoint : ∀ b b' : Fin 40, b ≠ b' → Disjoint (typeSet b) (typeSet b') := by
  intro b b' hne; rw [Finset.disjoint_left]; intro y hy hy'; rw [mem_typeSet] at hy hy'; exact hne (Fin.ext (hy.symm.trans hy'))
theorem typeSet_cover : (Finset.univ : Finset (Fin 40)).biUnion typeSet = Finset.univ := by
  ext y; simp only [Finset.mem_biUnion, Finset.mem_univ, true_and, iff_true]; exact ⟨⟨(y 0).val, (y 0).isLt⟩, by rw [mem_typeSet]⟩
theorem slotSet_disjoint : ∀ s s' : Fin 2, s ≠ s' → Disjoint (slotSet s) (slotSet s') := by
  intro b b' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨⟨(y 0).val, (y 0).isLt⟩, by rw [mem_slotSet]⟩
theorem tslotSet_disjoint : ∀ s s' : Fin 2, s ≠ s' → Disjoint (tslotSet s) (tslotSet s') := by
  intro b b' hne; rw [Finset.disjoint_left]; intro y hy hy'; rw [mem_tslotSet] at hy hy'; exact hne (Fin.ext (hy.symm.trans hy'))
theorem tslotSet_cover : (Finset.univ : Finset (Fin 2)).biUnion tslotSet = Finset.univ := by
  ext y; simp only [Finset.mem_biUnion, Finset.mem_univ, true_and, iff_true]; exact ⟨⟨(y 0).val, (y 0).isLt⟩, by rw [mem_tslotSet]⟩

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

/-! ### Arrays -/

section Arrays
variable (c : Dev nD)

omit [FloatOps F] in
theorem x_eq (X : Buf (Elt F) (xM.view.loc (c : Thread nD τ))) :
    (((c : Thread nD τ).loc main_arg0) ↦{fullShare} X : sProp 𝕄) = run (xhome c X) 0 40 := by
  rw [run, Ring.rangeSet_univ, Ring.pointsTo_blocks (ℓ := (c : Thread nD τ).loc main_arg0) rowSet rowSet_disjoint rowSet_cover]
  exact bigSep_congr fun b _ => by rw [← xblk_set]; rfl
omit [FloatOps F] in
theorem t_eq (T : Buf (Elt F) (tM.view.loc (c : Thread nD τ))) :
    (((c : Thread nD τ).loc main_v1) ↦{fullShare} T : sProp 𝕄) = run (thome c T) 0 40 := by
  rw [run, Ring.rangeSet_univ, Ring.pointsTo_blocks (ℓ := (c : Thread nD τ).loc main_v1) typeSet typeSet_disjoint typeSet_cover]
  exact bigSep_congr fun b _ => by rw [← tblk_set]; rfl
omit [FloatOps F] in
theorem o_eq (Y : Buf (Elt F) (oM.view.loc (c : Thread nD τ))) :
    (((c : Thread nD τ).loc main_v3) ↦{fullShare} Y : sProp 𝕄) = run (ohome c Y) 0 40 := by
  rw [run, Ring.rangeSet_univ, Ring.pointsTo_blocks (ℓ := (c : Thread nD τ).loc main_v3) rowSet rowSet_disjoint rowSet_cover]
  exact bigSep_congr fun b _ => by rw [← oblk_set]; rfl

/-! ### Double buffers -/

omit [FloatOps F] in
theorem xslotP_eq (s : Fin 2) (f) : xslotP c s f = (((c : Thread nD τ).loc cc0_scoped0) ↦[slotSet s]{fullShare} f : sProp 𝕄) :=
  congrArg (fun S => (_ ↦[S]{fullShare} f : sProp 𝕄)) (xslot_set s)
omit [FloatOps F] in
theorem tslotP_eq (s : Fin 2) (f) : tslotP c s f = (((c : Thread nD τ).loc cc0_scoped2) ↦[tslotSet s]{fullShare} f : sProp 𝕄) :=
  congrArg (fun S => (_ ↦[S]{fullShare} f : sProp 𝕄)) (tslot_set s)
omit [FloatOps F] in
theorem oslotP_eq (s : Fin 2) (f) : oslotP c s f = (((c : Thread nD τ).loc cc0_scoped4) ↦[slotSet s]{fullShare} f : sProp 𝕄) :=
  congrArg (fun S => (_ ↦[S]{fullShare} f : sProp 𝕄)) (oslot_set s)

/-- A double buffer whole, at whatever it holds, -/
abbrev xbufP : sProp 𝕄 := iprop(∃ f : Buf (Elt F) ((c : Thread nD τ).loc cc0_scoped0), ((c : Thread nD τ).loc cc0_scoped0) ↦{fullShare} f)
abbrev tbufP : sProp 𝕄 := iprop(∃ f : Buf (Elt F) ((c : Thread nD τ).loc cc0_scoped2), ((c : Thread nD τ).loc cc0_scoped2) ↦{fullShare} f)
abbrev obufP : sProp 𝕄 := iprop(∃ f : Buf (Elt F) ((c : Thread nD τ).loc cc0_scoped4), ((c : Thread nD τ).loc cc0_scoped4) ↦{fullShare} f)

/-- is its two slots, -/
theorem xbuf_split : xbufP (F := F) c ⊢ (iprop((∃ f, xslotP c 0 f) ∗ ∃ f, xslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) slotSet slotSet_disjoint slotSet_cover f).trans (bigSep_two _))) $$ H
  icases H2 with ⟨H0, H1⟩
  isplitl [H0]
  · iexists f; iapply (entails_of_eq (xslotP_eq c 0 f).symm); iexact H0
  · iexists f; iapply (entails_of_eq (xslotP_eq c 1 f).symm); iexact H1
theorem tbuf_split : tbufP (F := F) c ⊢ (iprop((∃ f, tslotP c 0 f) ∗ ∃ f, tslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) tslotSet tslotSet_disjoint tslotSet_cover f).trans (bigSep_two _))) $$ H
  icases H2 with ⟨H0, H1⟩
  isplitl [H0]
  · iexists f; iapply (entails_of_eq (tslotP_eq c 0 f).symm); iexact H0
  · iexists f; iapply (entails_of_eq (tslotP_eq c 1 f).symm); iexact H1
theorem obuf_split : obufP (F := F) c ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped4) slotSet slotSet_disjoint slotSet_cover f).trans (bigSep_two _))) $$ H
  icases H2 with ⟨H0, H1⟩
  isplitl [H0]
  · iexists f; iapply (entails_of_eq (oslotP_eq c 0 f).symm); iexact H0
  · iexists f; iapply (entails_of_eq (oslotP_eq c 1 f).symm); iexact H1
/-- and back. -/
theorem xbuf_join : iprop((∃ f, xslotP c 0 f) ∗ ∃ f, xslotP c 1 f) ⊢ xbufP (F := F) c := by
  iintro ⟨⟨%f0, H0⟩, ⟨%f1, H1⟩⟩
  iapply (Ring.pointsTo_blocks_join_exists (ℓ := (c : Thread nD τ).loc cc0_scoped0) slotSet slotSet_disjoint slotSet_cover f0)
  irw [bigSep_two]
  isplitl [H0]
  · iexists f0; iapply (entails_of_eq (xslotP_eq c 0 f0)); iexact H0
  · iexists f1; iapply (entails_of_eq (xslotP_eq c 1 f1)); iexact H1
theorem tbuf_join : iprop((∃ f, tslotP c 0 f) ∗ ∃ f, tslotP c 1 f) ⊢ tbufP (F := F) c := by
  iintro ⟨⟨%f0, H0⟩, ⟨%f1, H1⟩⟩
  iapply (Ring.pointsTo_blocks_join_exists (ℓ := (c : Thread nD τ).loc cc0_scoped2) tslotSet tslotSet_disjoint tslotSet_cover f0)
  irw [bigSep_two]
  isplitl [H0]
  · iexists f0; iapply (entails_of_eq (tslotP_eq c 0 f0)); iexact H0
  · iexists f1; iapply (entails_of_eq (tslotP_eq c 1 f1)); iexact H1
theorem obuf_join : iprop((∃ f, oslotP c 0 f) ∗ ∃ f, oslotP c 1 f) ⊢ obufP (F := F) c := by
  iintro ⟨⟨%f0, H0⟩, ⟨%f1, H1⟩⟩
  iapply (Ring.pointsTo_blocks_join_exists (ℓ := (c : Thread nD τ).loc cc0_scoped4) slotSet slotSet_disjoint slotSet_cover f0)
  irw [bigSep_two]
  isplitl [H0]
  · iexists f0; iapply (entails_of_eq (oslotP_eq c 0 f0)); iexact H0
  · iexists f1; iapply (entails_of_eq (oslotP_eq c 1 f1)); iexact H1

/-! ### The kernel's own cells, and everything at rest -/

/-- The six cells. -/
abbrev osem : Fin 6 → SemLoc sig := fun
  | 0 => .dma (xcell 0).sem | 1 => .dma (xcell 1).sem | 2 => .dma (tcell 0).sem | 3 => .dma (tcell 1).sem | 4 => .dma (ocell 0).sem | 5 => .dma (ocell 1).sem
theorem ownSemFacts : Pipeline.OwnSemFacts spec0 osem := by decide

omit [FloatOps F] in
theorem ownSems0_eq : (Pipeline.ownSems0 (Ix := Unit) (Name := ℕ) (U := UU nD τ) (Lvl := ℕ) (Val := Elt F) (τ := τ) osem c : sProp 𝕄)
    = iprop(xcellP (F := F) c 0 ∗ xcellP (F := F) c 1 ∗ tcellP (F := F) c 0 ∗ tcellP (F := F) c 1 ∗ ocellP (F := F) c 0 ∗ ocellP (F := F) c 1) := by
  unfold Pipeline.ownSems0
  rw [bigSep_univ_eq_bigSepL [(0 : Fin 6), 1, 2, 3, 4, 5] (by decide) (by decide)]; rfl

/-- Slots and cells at rest are the buffers whole and the cells at zero, -/
theorem idle_of : iprop((xbufP (F := F) c ∗ tbufP (F := F) c ∗ obufP (F := F) c) ∗ Pipeline.ownSems0 (Ix := Unit) (Name := ℕ) (U := UU nD τ) (Lvl := ℕ) (Val := Elt F) (τ := τ) osem c) ⊢ idleAll (F := F) c := by
  rw [ownSems0_eq]; unfold idleAll xidle tidle oidle
  iintro ⟨⟨Hx, Ht, Ho⟩, Hx0, Hx1, Ht0, Ht1, Ho0, Ho1⟩
  ihave Hx := (xbuf_split c) $$ Hx
  ihave Ht := (tbuf_split c) $$ Ht
  ihave Ho := (obuf_split c) $$ Ho
  icases Hx with ⟨Hxs0, Hxs1⟩
  icases Ht with ⟨Hts0, Hts1⟩
  icases Ho with ⟨Hos0, Hos1⟩
  isplitl [Hxs0 Hx0]
  · isplitl [Hxs0]; · iexact Hxs0
    iexact Hx0
  isplitl [Hxs1 Hx1]
  · isplitl [Hxs1]; · iexact Hxs1
    iexact Hx1
  isplitl [Hts0 Ht0]
  · isplitl [Hts0]; · iexact Hts0
    iexact Ht0
  isplitl [Hts1 Ht1]
  · isplitl [Hts1]; · iexact Hts1
    iexact Ht1
  isplitl [Hos0 Ho0]
  · isplitl [Hos0]; · iexact Hos0
    iexact Ho0
  isplitl [Hos1]; · iexact Hos1
  iexact Ho1
/-- and back. -/
theorem of_idle : idleAll (F := F) c ⊢ iprop(Pipeline.ownSems0 (Ix := Unit) (Name := ℕ) (U := UU nD τ) (Lvl := ℕ) (Val := Elt F) (τ := τ) osem c ∗ (xbufP (F := F) c ∗ tbufP (F := F) c ∗ obufP (F := F) c)) := by
  rw [ownSems0_eq]; unfold idleAll xidle tidle oidle
  iintro ⟨⟨Hxs0, Hx0⟩, ⟨Hxs1, Hx1⟩, ⟨Hts0, Ht0⟩, ⟨Hts1, Ht1⟩, ⟨Hos0, Ho0⟩, Hos1, Ho1⟩
  isplitl [Hx0 Hx1 Ht0 Ht1 Ho0 Ho1]
  · isplitl [Hx0]; · iexact Hx0
    isplitl [Hx1]; · iexact Hx1
    isplitl [Ht0]; · iexact Ht0
    isplitl [Ht1]; · iexact Ht1
    isplitl [Ho0]; · iexact Ho0
    iexact Ho1
  isplitl [Hxs0 Hxs1]
  · iapply (xbuf_join c); isplitl [Hxs0]; · iexact Hxs0
    iexact Hxs1
  isplitl [Hts0 Hts1]
  · iapply (tbuf_join c); isplitl [Hts0]; · iexact Hts0
    iexact Hts1
  iapply (obuf_join c); isplitl [Hos0]; · iexact Hos0
  iexact Hos1

end Arrays

end Cert.Proof.KernelIdeal

end
-- ==== Proof.KernelIdeal.Run.lean ====
/-
  The launch: the pipeline stages the weights and the bias at the one point, the input table, the codes and the result
  reach the body as they are. A run of the program leaves the result at `result`, the arguments unchanged, and every
  counter at zero.
-/
module

public import proofs.«01_k».proof.Defs
public import proofs.«01_k».proof.Proof.KernelIdeal.Whole
public import proofs.«01_k».proof.Proof.Gen.KernelIdeal.Frame

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The staging buffers at a point, as the body is handed them. -/
abbrev wst (t : Fin cfg0.N) : Memref sig .tc .vmem S128x128 .f32 := win0_0.stage (cfg0.slots t 0)
abbrev bst (t : Fin cfg0.N) : Memref sig .tc .vmem S1x128 .f32 := win0_1.stage (cfg0.slots t 1)
abbrev hwst (t : Fin cfg0.N) : (wst t).IsWhole := hstage0_0 ((cfg0.slots t 0).cast nbuf0_0)
abbrev hbst (t : Fin cfg0.N) : (bst t).IsWhole := hstage0_1 ((cfg0.slots t 1).cast nbuf0_1)

/-- The weights the body reads at point `t`, -/
abbrev wAt (c : Dev nD) (t : Fin cfg0.N) : Vec F S128x128 .f32 := wOf c (wst t) ((wst t).view.rep (iblk m c 0 t))
/-- and the bias. -/
abbrev bAt (c : Dev nD) (t : Fin cfg0.N) : FVec F S1x128 .f32 := bOf c (bst t) ((bst t).view.rep (iblk m c 1 t))

/-- The result a run leaves. -/
def result (c : Dev nD) : Buf (Elt F) ((c : Thread nD τ).loc main_v3) :=
  outArr c (V m c main_arg0) (V m c main_v1) (wAt m c t0_0) (bAt m c t0_0)

/-! ### The region's invariant and data -/

/-- The input table, the codes and the result at home, everything else at rest. -/
def Φ (c : Dev nD) (G : Buf (Elt F) ((c : Thread nD τ).loc main_v3)) : sProp 𝕄 :=
  iprop(run (xhome c (V m c main_arg0)) 0 40 ∗ run (thome c (V m c main_v1)) 0 40 ∗ run (ohome c G) 0 40 ∗ idleAll (F := F) c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ p := Φ m c (if p.val = 0 then V m c main_v3 else result m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem Φ_start (c : Dev nD) : (dats m 0 c).Φ (t0_0 : Fin cfg0.N).castSucc = Φ m c (V m c main_v3) := by
  dsimp only [dats]; rw [if_pos (by rfl)]
theorem Φ_stop (c : Dev nD) : (dats m 0 c).Φ (t0_0 : Fin cfg0.N).succ = Φ m c (result m c) := by
  dsimp only [dats]; rw [if_neg (by decide)]

/-! ### The body obligation -/

theorem defs_tc : (defs₀ (F := F)) .tc cfg0.body
    = fun a => cc0__outer (grid0.coords a.1) (Memref.whole main_arg0) (Memref.isWhole_whole _) (Memref.whole main_v1) (Memref.isWhole_whole _) (win0_0.stage (a.2 0)) (hstage0_0 ((a.2 0).cast nbuf0_0)) (win0_1.stage (a.2 1)) (hstage0_1 ((a.2 1).cast nbuf0_1)) (Memref.whole main_v3) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 := rfl
theorem prog_eq (t : Fin cfg0.N) : (defs₀ (F := F)) .tc cfg0.body (cfg0.bodyArgs t (cfg0.slots t)) = bodyG (grid0.coords t) (wst t) (hwst t) (bst t) (hbst t) :=
  (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, after_w0, after_w1]
  rw [Φ_start, Φ_stop]
  unfold Dat.owesAt Pipeline.owesWithin
  rw [show (dats m 0 c).owed (t0_0 : Fin cfg0.N).castSucc = 0 from rfl, show (dats m 0 c).owed (t0_0 : Fin cfg0.N).succ = 0 from rfl]
  unfold owns Φ
  iintro ⟨⟨HX, HT, HY, HI⟩, ⟨%W, -, HO⟩, ⟨%d0, %g0, %hg0, Hw⟩, ⟨%d1, %g1, %hg1, Hb⟩⟩
  ihave Hw' := (pointsTo_rep_entails (c : Thread nD τ) (wst t0_0) g0 fullShare) $$ Hw
  ihave Hb' := (pointsTo_rep_entails (c : Thread nD τ) (bst t0_0) g1 fullShare) $$ Hb
  rw [hg0, hg1]
  sl_rw [prog_eq t0_0]
  iapply (bodyRun c (V m c main_arg0) (V m c main_v1) (V m c main_v3) (grid0.coords t0_0) (wst t0_0) (hwst t0_0) (bst t0_0) (hbst t0_0) ((wst t0_0).view.rep (iblk m c 0 t0_0)) ((bst t0_0).view.rep (iblk m c 1 t0_0)))
  isplitl [Hw' Hb' HX HT HY HI HO]
  · isplitl [Hw']; · iexact Hw'
    isplitl [Hb']; · iexact Hb'
    isplitl [HO]; · unfold owing; iexists W; iexact HO
    isplitl [HX]; · iexact HX
    isplitl [HT]; · iexact HT
    isplitl [HY]; · iexact HY
    iexact HI
  · unfold bodyPost owing
    iintro ⟨Hw, Hb, ⟨%W', HO⟩, HX, HT, HG, HI⟩
    isplitl [HX HT HG HI]
    · isplitl [HX]; · iexact HX
      isplitl [HT]; · iexact HT
      isplitl [HG]; · iexact HG
      iexact HI
    isplitl [HO]
    · iexists W'; isplitr; · ipureintro; exact fun _ _ => Or.inl trivial
      iexact HO
    isplitl [Hw]
    · iexists _; isplitr; · ipureintro; exact View.read_rep _ _
      iexact Hw
    iexists _; isplitr; · ipureintro; exact View.read_rep _ _
    iexact Hb

/-! ### The run -/

/-- The arrays the body reads or leaves, beside the staged ones. -/
def kept (c : Dev nD) (G : Buf (Elt F) ((c : Thread nD τ).loc main_v3)) : sProp 𝕄 :=
  iprop(run (xhome c (V m c main_arg0)) 0 40 ∗ run (thome c (V m c main_v1)) 0 40 ∗ run (ohome c G) 0 40)
/-- The two argument arrays the region does not touch. -/
def aside (c : Dev nD) : sProp 𝕄 :=
  iprop((((c : Thread nD τ).loc main_arg1) ↦{fullShare} V m c main_arg1) ∗ (((c : Thread nD τ).loc main_arg3) ↦{fullShare} V m c main_arg3))
def u₀ : UU nD τ := (initOf (Pipeline.cells cfgs cellOf_inj) (Pipeline.launchToks cfgs cellOf_inj), 1)

/-- What a run ends in, of the unstaged arrays. -/
def QY (c : Dev nD) (s : MemSt nD τ sig (Elt F)) : Prop :=
  s.mem ((c : Thread nD τ).loc main_v3) = result m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg3) = m ((c : Thread nD τ).loc main_arg3)
/-- What a run ends in. -/
def QC (r : PUnit × MemSt nD τ sig (Elt F)) : Prop :=
  ∀ c : Dev nD, (∀ w : Fin cfg0.W, r.2.mem ((cfg0.win w).arr.view.loc (c : Thread nD τ)) = (dats m 0 c).arrAt w cfg0.N) ∧ QY m c r.2

set_option backward.isDefEq.respectTransparency.types false in
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := fun c => iprop(kept m c (V m c main_v3) ∗ Pipeline.ownSems0 osem c)) (Y := fun c => kept m c (result m c)) (Z := aside m)
    (hX := fun c => by
      rw [unscopedRest0_eq, x_eq c, t_eq c, o_eq c]
      unfold kept aside
      iintro ⟨⟨H0, H1, H3, -, HT, HY⟩, HS, -, -, -⟩; imodintro
      isplitl [H0 HT HY HS]
      · isplitl [H0 HT HY]
        · isplitl [H0]; · iexact H0
          isplitl [HT]; · iexact HT
          iexact HY
        iexact HS
      isplitl [H1]; · iexact H1
      iexact H3)
    (hin := fun c => by
      rw [scopedRest0_eq, show (dats m 0 c).Φ 0 = Φ m c (V m c main_v3) from Φ_start m c]
      unfold kept Φ
      iintro ⟨⟨⟨H0, HT, HY⟩, HS⟩, Hb⟩
      isplitl [H0]; · iexact H0
      isplitl [HT]; · iexact HT
      isplitl [HY]; · iexact HY
      iapply (idle_of c)
      isplitl [Hb]; · iexact Hb
      iexact HS)
    (hout := fun c => by
      rw [scopedRest0_eq, show (dats m 0 c).Φ (Fin.last cfg0.N) = Φ m c (result m c) from Φ_stop m c]
      unfold kept Φ
      iintro ⟨H0, HT, HY, HI⟩
      ihave HI := (of_idle c) $$ HI
      icases HI with ⟨HS, Hb⟩
      isplitl [H0 HT HY]
      · isplitl [H0]; · iexact H0
        isplitl [HT]; · iexact HT
        iexact HY
      isplitl [HS]; · iexact HS
      iexact Hb)
    (QY := QY m)
    (hY := fun c s' => by
      unfold kept aside QY
      rw [← x_eq c, ← o_eq c, V_main_arg0, V_main_arg1, V_main_arg3]
      iintro ⟨⟨H0, -, HY⟩, ⟨H1, H3⟩, HSI⟩
      icombine HSI H0 gives %h0
      icombine HSI H1 gives %h1
      icombine HSI H3 gives %h3
      icombine HSI HY gives %hY
      imodintro
      isplitr
      · ipureintro; exact ⟨Buf.eq_of_forall_mem_univ hY, Buf.eq_of_forall_mem_univ h0, Buf.eq_of_forall_mem_univ h1, Buf.eq_of_forall_mem_univ h3⟩
      iexact HSI)
    (hQ := fun _ hh hz => ⟨hh, hz⟩)

/-- The weights argument, staged: unchanged too. -/
theorem arg2_kept (c : Dev nD) : (dats (F := F) m 0 c).arrAt 0 cfg0.N = m ((c : Thread nD τ).loc main_arg2) :=
  ((dats (F := F) m 0 c).arrAt_in 0 rfl _).trans (V_main_arg2 m c)

/-- Every run ends with the result at `result`, the arguments unchanged, the counters at zero. -/
theorem run_ends : θ_run defs (onTc (τ := τ) (main (F := F))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => ⟨(hh.1 c).2.1, (hh.1 c).2.2.1, (hh.1 c).2.2.2.1, ((hh.1 c).1 0).trans (arg2_kept m c), (hh.1 c).2.2.2.2⟩, hh.2⟩) (run_main m ρ)

end Cert.Proof.KernelIdeal

end
-- ==== Proof.Value.Scalar.lean ====
/-
  Two facts about single words: a choice on an equality test is an `if`, and a code of 0 or 1 cut to eight bits is 1
  exactly when the code is.
-/
module

public import Idealize.ShloMosaic.Lib.Pointwise

@[expose] public section

namespace Cert.Proof.Value

open Idealize.ShloMosaic

theorem select_eq {w : ℕ} {α : Type} (a b : BitVec w) (x y : α) :
    Scalar.select (IntOp.cmpi .eq a b) x y = if a = b then x else y := by
  by_cases h : a = b
  · subst h; simp [Scalar.select, IntOp.cmpi]
  · simp [Scalar.select, IntOp.cmpi, beq_eq_false_iff_ne.mpr h]
    exact fun e => absurd e h

/-- Of a code that is 0 or 1, the low eight bits tell which. -/
theorem code_trunc (t : BitVec 32) (h : 0 ≤ t.toInt ∧ t.toInt < 2) : t.setWidth 8 = 1#8 ↔ t = 1#32 := by
  have : t.toNat < 2 := by have := t.isLt; have := BitVec.toInt_eq_toNat_cond t; split at this <;> omega
  constructor
  · intro e
    have e' : t.toNat % 2 ^ 8 = 1 := by simpa using congrArg BitVec.toNat e
    apply BitVec.eq_of_toNat_eq; show t.toNat = 1; omega
  · rintro rfl; rfl

end Cert.Proof.Value
-- ==== Proof.Value.Block.lean ====
/-
  What one block of the result is at extended reals: the row where its code is not 1, the row against the weights' rows
  plus the bias where it is.
-/
module

public import proofs.«01_k».proof.Proof.KernelIdeal.Block
public import proofs.«01_k».proof.Proof.Value.Scalar
public import Idealize.ShloMosaic.Lib.Pointwise

@[expose] public section

set_option maxRecDepth 16384

noncomputable section

namespace Cert.Proof.Value

open Cert.KernelIdeal Cert.KernelIdeal.Gen Cert.Proof.KernelIdeal
open Idealize.ShloMosaic

theorem blockOut_apply (W : Vec Ideal S128x128 .f32) (b2 : FVec Ideal S1x128 .f32) (x : S2500x128.Idx → Elt Ideal .f32)
    (t : S1x1x2500.Idx → Elt Ideal .i8) (r : Fin 2500) (j : Fin 128) :
    blockOut W b2 x t (ix2 r j)
      = if t (ix3 0 0 r) = 1#8 then (∑ k : Fin 128, x (ix2 r k) * W (ix2 j k)) + b2 (ix2 0 j) else x (ix2 r j) := by
  pointwise [blockOut]
  exact select_eq _ _ _ _

end Cert.Proof.Value

end
-- ==== Proof.Value.Arrays.lean ====
/-
  What the kernel's result holds, element by element, in terms of the arguments: the weights and the bias the body reads
  are the arguments', a block's rows are the input table's, its codes are the argument's cut to eight bits.
-/
module

public import proofs.«01_k».proof.Proof.KernelIdeal.Run
public import proofs.«01_k».proof.Proof.Value.Block
public import Idealize.ShloMosaic.Lib.StableHlo.Run

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.StableHlo

variable (m : (ℓ : Loc nD τ sig) → Buf (Elt Ideal) ℓ) (c : Dev nD)

/-- The arguments. -/
abbrev argX : FVec Ideal S100000x128 .f32 := m ((c : Thread nD τ).loc main_arg0)
abbrev argT : IVec S100000 32 := m ((c : Thread nD τ).loc main_arg1)
abbrev argW : FVec Ideal S128x128 .f32 := m ((c : Thread nD τ).loc main_arg2)
abbrev argB : FVec Ideal S128 .f32 := m ((c : Thread nD τ).loc main_arg3)

theorem V_codes : (V m c main_v1 : IVec S40x1x2500 8) = shapeCast S40x1x2500 (trunci 8 (argT m c) natLt_8_32) shapeCasts_S100000_S40x1x2500 := by
  unfold V; after_results; rfl
theorem V_bias : (V m c main_v2 : FVec Ideal S1x128 .f32) = shapeCast S1x128 (argB m c) shapeCasts_S128_S1x128 := by
  unfold V; after_results; rfl

theorem code_at (b : Fin 40) (r : Fin 2500) : (V m c main_v1 : IVec S40x1x2500 8) (ix3 b 0 r)
    = (argT m c (ix1 ⟨b.val * 2500 + r.val, by omega⟩)).setWidth 8 := by
  rw [V_codes]
  pointwise
theorem bias_at (j : Fin 128) : (V m c main_v2 : FVec Ideal S1x128 .f32) (ix2 0 j) = argB m c (ix1 j) := by
  rw [V_bias]; pointwise

theorem wAt_apply (a k : Fin 128) : wAt m c t0_0 (ix2 a k) = argW m c (ix2 a k) := by
  unfold wAt wOf
  rw [View.readAt_apply, View.read_rep]
  unfold iblk
  rw [View.read_apply]
  show V m c main_arg2 _ = _
  rw [V_main_arg2]
  refine congrArg (argW m c) (Cert.Proof.KernelIdeal.pair_ext ?_ ?_)
  · show 0 * 128 + 1 * (0 + 1 * a.val) = a.val; omega
  · show 0 * 128 + 1 * (0 + 1 * k.val) = k.val; omega
theorem bAt_apply (j : Fin 128) : bAt m c t0_0 (ix2 0 j) = argB m c (ix1 j) := by
  unfold bAt bOf k0_pay3
  rw [shapeCast_self]
  rw [View.readAt_apply, View.read_rep]
  unfold iblk
  rw [View.read_apply]
  show V m c main_v2 _ = _
  rw [← bias_at]
  refine congrArg (V m c main_v2) (Cert.Proof.KernelIdeal.pair_ext ?_ ?_)
  · show 0 * 1 + 1 * (0 + 1 * 0) = 0; omega
  · show 0 * 128 + 1 * (0 + 1 * j.val) = j.val; omega

theorem xpay_apply (X : FVec Ideal S100000x128 .f32) (b : Fin 40) (r : Fin 2500) (k : Fin 128) :
    xpay (F := Ideal) c X b (ix2 r k) = X (ix2 ⟨b.val * 2500 + r.val, by omega⟩ k) := by
  show X ((xblk b).view.emb (ix2 r k)) = _
  refine congrArg X (Cert.Proof.KernelIdeal.pair_ext ?_ ?_)
  · show 2500 * b.val + 1 * r.val = b.val * 2500 + r.val; omega
  · show 0 + 1 * k.val = k.val; omega

theorem tpay_apply (T : IVec S40x1x2500 8) (b : Fin 40) (r : Fin 2500) :
    tpay (F := Ideal) c T b (ix3 0 0 r) = T (ix3 b 0 r) := by
  show T ((tblk b).view.emb (ix3 0 0 r)) = _
  refine congrArg T (funext fun a => Fin.ext ?_)
  match a with
  | ⟨0, _⟩ => show b.val + 1 * 0 = b.val; omega
  | ⟨1, _⟩ => show 0 + 1 * 0 = 0; omega
  | ⟨2, _⟩ => show 0 + 1 * r.val = r.val; omega

/-- The kernel's result at row `n`, column `j`. -/
theorem result_apply (n : Fin 100000) (j : Fin 128) :
    (result m c : FVec Ideal S100000x128 .f32) (ix2 n j)
      = if (argT m c (ix1 n)).setWidth 8 = 1#8 then (∑ k : Fin 128, argX m c (ix2 n k) * argW m c (ix2 j k)) + argB m c (ix1 j) else argX m c (ix2 n j) := by
  have hb : blkOf (ix2 n j) = ⟨n.val / 2500, by omega⟩ := rfl
  have hr : rowOf (ix2 n j) = ix2 ⟨n.val % 2500, by omega⟩ j := Cert.Proof.KernelIdeal.pair_ext rfl rfl
  show blockOut (wAt m c t0_0) (bAt m c t0_0) (xpay c (V m c main_arg0) (blkOf (ix2 n j))) (tpay c (V m c main_v1) (blkOf (ix2 n j))) (rowOf (ix2 n j)) = _
  have e : ∀ h, (⟨n.val / 2500 * 2500 + n.val % 2500, h⟩ : Fin 100000) = n := fun _ => Fin.ext (by show n.val / 2500 * 2500 + n.val % 2500 = n.val; omega)
  have hx : ∀ k : Fin 128, xpay (F := Ideal) c (V m c main_arg0) ⟨n.val / 2500, by omega⟩ (ix2 ⟨n.val % 2500, by omega⟩ k) = argX m c (ix2 n k) := fun k => by
    rw [V_main_arg0]
    exact (xpay_apply c (argX m c) _ _ _).trans (congrArg (fun i => argX m c (ix2 i k)) (e _))
  have ht : tpay (F := Ideal) c (V m c main_v1) ⟨n.val / 2500, by omega⟩ (ix3 0 0 ⟨n.val % 2500, by omega⟩) = (argT m c (ix1 n)).setWidth 8 :=
    ((tpay_apply c (V m c main_v1) _ _).trans (code_at m c _ _)).trans (congrArg (fun i => (argT m c (ix1 i)).setWidth 8) (e _))
  rw [hb, hr, blockOut_apply, ht, bAt_apply, hx]
  simp only [hx, wAt_apply]

end Cert.Proof.Value

end
-- ==== Proof.Value.Reference.lean ====
/-
  What the reference computes at extended reals, element by element.
-/
module

public import proofs.«01_k».proof.Proof.Gen.ReferenceIdeal.Run
public import proofs.«01_k».proof.Proof.Value.Scalar
public import Idealize.ShloMosaic.Lib.Pointwise

@[expose] public section

set_option maxRecDepth 16384

noncomputable section

namespace Cert.Proof.Value

open Cert.ReferenceIdeal Cert.ReferenceIdeal.Gen
open Idealize.ShloMosaic

/-- The reference's result as its operations compose it. -/
def refOut (X : FVec Ideal S100000x128 .f32) (T : IVec S100000 32) (W : FVec Ideal S128x128 .f32) (b : FVec Ideal S128 .f32) : FVec Ideal S100000x128 .f32 :=
  select (broadcastInDim S100000x128 ![0, 1] bcast_S100000x1_S100000x128_0_1 (broadcastInDim S100000x1 ![0] bcast_S100000_S100000x1_0 (cmpi .eq T (broadcastInDim S100000 ![] bcast_S_S100000 (constantI S_ 32 1#32)))))
    (addf (Host.dotGeneral dot_S100000x128_S128x128_S100000x128_1_0_0_1_n_n none X (transpose S128x128 [1, 0] W transposes_S128x128_S128x128_1_0))
      (broadcastInDim S100000x128 ![0, 1] bcast_S1x128_S100000x128_0_1 (broadcastInDim S1x128 ![1] bcast_S128_S1x128_1 b)))
    X

theorem refOut_apply (X : FVec Ideal S100000x128 .f32) (T : IVec S100000 32) (W : FVec Ideal S128x128 .f32) (b : FVec Ideal S128 .f32)
    (n : Fin 100000) (j : Fin 128) :
    refOut X T W b (ix2 n j)
      = if T (ix1 n) = 1#32 then (∑ k : Fin 128, X (ix2 n k) * W (ix2 j k)) + b (ix1 j) else X (ix2 n j) := by
  pointwise [refOut]
  exact select_eq _ _ _ _

end Cert.Proof.Value

end
-- ==== Proof.Value.Equal.lean ====
/-
  The equation: of codes that are 0 or 1, the kernel's result is the reference's.
-/
module

public import proofs.«01_k».proof.Defs
public import proofs.«01_k».proof.Proof.Gen.Pre_types
public import proofs.«01_k».proof.Proof.Value.Arrays
public import proofs.«01_k».proof.Proof.Value.Reference
public import Idealize.ShloMosaic.Lib.ReduceAll

@[expose] public section

noncomputable section

namespace Cert.Proof.Value

open Idealize.ShloMosaic Idealize.ShloMosaic.TcCoe

/-- The precondition `types`, read at a row: its code is 0 or 1. -/
theorem code_range (X : FVec Ideal Cert.Pre_types.S100000x128 .f32) (T : IVec Cert.Pre_types.S100000 32) (W : FVec Ideal Cert.Pre_types.S128x128 .f32)
    (b : FVec Ideal Cert.Pre_types.S128 .f32) (h : Cert.Pre_types.fn (F := Ideal) X T W b = fun _ => 1#1) (n : Fin 100000) :
    0 ≤ (T (ix1 n)).toInt ∧ (T (ix1 n)).toInt < 2 := by
  have e := congrFun h ix0
  dsimp only [Cert.Pre_types.fn] at e
  have e1 := Host.reduce_andi_all _ _ _ _ _ e (ix1 n)
  simp only [andi, cmpi, broadcastInDim, constantI] at e1
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e1
  have h0 : (0#32 : BitVec 32).toInt = 0 := by decide
  have h2 : (2#32 : BitVec 32).toInt = 2 := by decide
  omega

/-- The kernel's result is the reference's of the same arguments. -/
theorem result_eq (m : (ℓ : Loc Cert.KernelIdeal.nD Cert.KernelIdeal.τ Cert.KernelIdeal.sig) → Buf (Elt Ideal) ℓ) (h : Cert.Pre_KernelIdeal_types m)
    (c : Dev Cert.KernelIdeal.nD) :
    (Cert.Proof.KernelIdeal.result m c : FVec Ideal Cert.KernelIdeal.S100000x128 .f32) = refOut (argX m c) (argT m c) (argW m c) (argB m c) := by
  funext i
  rw [eq_ix2 i]
  refine (result_apply m c (i 0) (i 1)).trans (Eq.trans ?_ (refOut_apply (argX m c) (argT m c) (argW m c) (argB m c) (i 0) (i 1)).symm)
  exact if_congr (code_trunc _ (code_range _ _ _ _ (h c) (i 0))) rfl rfl

end Cert.Proof.Value

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Pre_types
public import proofs.«01_k».proof.Proof.Kernel.Run
public import proofs.«01_k».proof.Proof.KernelIdeal.Run
public import proofs.«01_k».proof.Proof.Value.Equal

@[expose] public section

namespace Cert.Proof

open Idealize.ShloMosaic Idealize.SL.Sem

/-- The kernel runs, its arguments end unchanged, the counters at zero; -/
theorem frame_kernel : Cert.quiescent_Kernel := fun m ρ _ =>
  (θ_run _ _ _).mono (fun _ h => ⟨fun c => (h.1 c).2, h.2⟩) (Cert.Proof.Kernel.run_ends (F := Bits) m ρ)
/-- so does its idealization, -/
theorem frame_kernelIdeal : Cert.quiescent_KernelIdeal := fun m ρ _ =>
  (θ_run _ _ _).mono (fun _ h => ⟨fun c => (h.1 c).2, h.2⟩) (Cert.Proof.KernelIdeal.run_ends (F := Ideal) m ρ)

/-- and so does the reference, which declares no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The kernel's result at extended reals is the reference's. -/
theorem equal : Cert.algebraic_KernelIdeal_ReferenceIdeal_pre_types := fun m g m' g' hpre hargs =>
  ⟨fun c => Cert.Proof.KernelIdeal.result m c,
    (θ_run _ _ _).mono (fun _ h c => h.1 c) (Cert.Proof.KernelIdeal.run_ends (F := Ideal) m g),
    (θ_run _ _ _).mono (fun _ h c => ⟨(h c).1.trans (by
        obtain ⟨e0, e1, e2, e3⟩ := hargs c
        rw [e0, e1, e2, e3]
        exact (Cert.Proof.Value.result_eq m hpre c).symm), (h c).2⟩) (Cert.ReferenceIdeal.Value.run (F := Ideal) m' g')⟩

/-- Every claim of this certificate. -/
theorem claim : Cert.Claim :=
  ⟨Cert.Kernel.Gen.facts, Cert.KernelIdeal.Gen.facts, Cert.ReferenceIdeal.Gen.facts, Cert.Pre_types.Gen.facts,
    frame_kernel, frame_kernelIdeal, fun m ρ _ => frame_kernelIdeal m ρ trivial, frame_reference,
    fun m ρ _ => frame_reference m ρ trivial, trivial, equal⟩

end Cert.Proof
